-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)
  ∧ IdealRules.named_const.Statement Cert.KernelIdeal.κ "ln2_inv_s" .f32 0x39B17218#32 (((Real.log 2) * 2048⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x768 : Shape := ⟨3, ![2, 2048, 768]⟩
abbrev S2x2048 : Shape := ⟨2, ![2, 2048]⟩
abbrev S_ : Shape := ⟨0, ![]⟩
abbrev S1x1 : Shape := ⟨2, ![1, 1]⟩
abbrev S1x256x768 : Shape := ⟨3, ![1, 256, 768]⟩
abbrev S1x2048x768 : Shape := ⟨3, ![1, 2048, 768]⟩
abbrev S2048x768 : Shape := ⟨2, ![2048, 768]⟩
abbrev S768x2048 : Shape := ⟨2, ![768, 2048]⟩
abbrev S256x2048 : Shape := ⟨2, ![256, 2048]⟩
abbrev S1x2048 : Shape := ⟨2, ![1, 2048]⟩
abbrev S3x1x2048 : Shape := ⟨3, ![3, 1, 2048]⟩
abbrev S1x128 : Shape := ⟨2, ![1, 128]⟩
abbrev S128x128 : Shape := ⟨2, ![128, 128]⟩
abbrev S2048x128 : Shape := ⟨2, ![2048, 128]⟩
abbrev S1x2048x128 : Shape := ⟨3, ![1, 2048, 128]⟩
abbrev S1x256 : Shape := ⟨2, ![1, 256]⟩
abbrev S256x128 : Shape := ⟨2, ![256, 128]⟩
abbrev S1x256x128 : Shape := ⟨3, ![1, 256, 128]⟩
abbrev S128x256 : Shape := ⟨2, ![128, 256]⟩
abbrev S768x256 : Shape := ⟨2, ![768, 256]⟩
abbrev S256x768 : Shape := ⟨2, ![256, 768]⟩
abbrev S256x256 : Shape := ⟨2, ![256, 256]⟩
abbrev S128 : Shape := ⟨1, ![128]⟩
abbrev S1x1x256 : Shape := ⟨3, ![1, 1, 256]⟩
abbrev S768x128 : Shape := ⟨2, ![768, 128]⟩
abbrev S128x768 : Shape := ⟨2, ![128, 768]⟩
abbrev S1x128x768 : Shape := ⟨3, ![1, 128, 768]⟩
abbrev S1x1x2048 : Shape := ⟨3, ![1, 1, 2048]⟩

abbrev nBuf : Space → Nat
  | .hbm => 14
  | .vmem => 21
  | .smem => 2
  | _ => 0

abbrev bufTy : (tb : Table) → Fin (tcTables nBuf tb) → BufTy
  | .hbm, ⟨0, _⟩ => ⟨S2x2048x768, .fp8e4m3⟩
  | .hbm, ⟨1, _⟩ => ⟨S2x2048, .f32⟩
  | .hbm, ⟨2, _⟩ => ⟨S2x2048x768, .fp8e4m3⟩
  | .hbm, ⟨3, _⟩ => ⟨S2x2048, .f32⟩
  | .hbm, ⟨4, _⟩ => ⟨S2x2048, .i32⟩
  | .hbm, ⟨5, _⟩ => ⟨S_, .f32⟩
  | .hbm, ⟨6, _⟩ => ⟨S_, .f32⟩
  | .hbm, ⟨7, _⟩ => ⟨S1x1, .f32⟩
  | .hbm, ⟨8, _⟩ => ⟨S1x1, .f32⟩
  | .hbm, ⟨9, _⟩ => ⟨S2x2048, .f32⟩
  | .hbm, ⟨10, _⟩ => ⟨S2x2048x768, .bf16⟩
  | .hbm, ⟨11, _⟩ => ⟨S2x2048x768, .bf16⟩
  | .hbm, ⟨12, _⟩ => ⟨S2x2048, .f32⟩
  | .hbm, ⟨13, _⟩ => ⟨S2x2048, .f32⟩
  | .local _ .vmem, ⟨0, _⟩ => ⟨S1x256x768, .fp8e4m3⟩
  | .local _ .vmem, ⟨1, _⟩ => ⟨S1x256x768, .fp8e4m3⟩
  | .local _ .vmem, ⟨2, _⟩ => ⟨S2x2048, .f32⟩
  | .local _ .vmem, ⟨3, _⟩ => ⟨S1x2048x768, .fp8e4m3⟩
  | .local _ .vmem, ⟨4, _⟩ => ⟨S1x2048x768, .fp8e4m3⟩
  | .local _ .vmem, ⟨5, _⟩ => ⟨S2x2048, .f32⟩
  | .local _ .vmem, ⟨6, _⟩ => ⟨S2x2048, .i32⟩
  | .local _ .vmem, ⟨7, _⟩ => ⟨S2x2048, .f32⟩
  | .local _ .vmem, ⟨8, _⟩ => ⟨S1x256x768, .bf16⟩
  | .local _ .vmem, ⟨9, _⟩ => ⟨S1x256x768, .bf16⟩
  | .local _ .vmem, ⟨10, _⟩ => ⟨S1x2048x768, .bf16⟩
  | .local _ .vmem, ⟨11, _⟩ => ⟨S1x2048x768, .bf16⟩
  | .local _ .vmem, ⟨12, _⟩ => ⟨S2x2048, .f32⟩
  | .local _ .vmem, ⟨13, _⟩ => ⟨S2x2048, .f32⟩
  | .local _ .vmem, ⟨14, _⟩ => ⟨S2048x768, .bf16⟩
  | .local _ .vmem, ⟨15, _⟩ => ⟨S768x2048, .f32⟩
  | .local _ .vmem, ⟨16, _⟩ => ⟨S256x2048, .bf16⟩
  | .local _ .vmem, ⟨17, _⟩ => ⟨S1x2048, .f32⟩
  | .local _ .vmem, ⟨18, _⟩ => ⟨S1x2048, .f32⟩
  | .local _ .vmem, ⟨19, _⟩ => ⟨S1x2048, .i32⟩
  | .local _ .vmem, ⟨20, _⟩ => ⟨S3x1x2048, .f32⟩
  | .local _ .smem, ⟨0, _⟩ => ⟨S1x1, .f32⟩
  | .local _ .smem, ⟨1, _⟩ => ⟨S1x1, .f32⟩
  | _, _ => ⟨S2x2048x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_stg5_0 : Ref sig .tc := ⟨.smem, 0, rfl⟩
abbrev cc0_stg6_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c256_i32 : BitVec 32 := 256#32
  let v8 : BitVec 32 := Scalar.muli arg1 c256_i32
  v8
def k0_off1 (i : grid0.Coords) : Fin 2 → Nat :=
  let c0_4 : Index := 0#32
  let arg1 : BitVec 32 := BitVec.ofNat 32 (i 1).val
  let c256_i32 : BitVec 32 := 256#32
  let v8 : BitVec 32 := Scalar.muli arg1 c256_i32
  let v9 : BitVec 32 := v8
  let v10 : Index := Scalar.indexCast v9
  ![0, v10.toNat]
def k0_off2 (i : grid0.Coords) : Fin 3 → Nat :=
  let c0_279 : Index := 0#32
  let c0_280 : Index := 0#32
  let arg1 : BitVec 32 := BitVec.ofNat 32 (i 1).val
  let c256_i32 : BitVec 32 := 256#32
  let v8 : BitVec 32 := Scalar.muli arg1 c256_i32
  let v9 : BitVec 32 := v8
  let v765 : Index := Scalar.indexCast v9
  ![0, 0, v765.toNat]
def k0_off3 (i : grid0.Coords) : Fin 3 → Nat :=
  let c1 : Index := 1#32
  let c0_284 : Index := 0#32
  let arg1 : BitVec 32 := BitVec.ofNat 32 (i 1).val
  let c256_i32 : BitVec 32 := 256#32
  let v8 : BitVec 32 := Scalar.muli arg1 c256_i32
  let v9 : BitVec 32 := v8
  let v780 : Index := Scalar.indexCast v9
  ![1, 0, v780.toNat]
def k0_off4 (i : grid0.Coords) : Fin 3 → Nat :=
  let c2 : Index := 2#32
  let c0_288 : Index := 0#32
  let arg1 : BitVec 32 := BitVec.ofNat 32 (i 1).val
  let c256_i32 : BitVec 32 := 256#32
  let v8 : BitVec 32 := Scalar.muli arg1 c256_i32
  let v9 : BitVec 32 := v8
  let v795 : Index := Scalar.indexCast v9
  ![2, 0, v795.toNat]
def k0_cond4 (i : grid0.Coords) : BitVec 1 :=
  let arg1 : BitVec 32 := BitVec.ofNat 32 (i 1).val
  let c7_i32 : BitVec 32 := 7#32
  let v815 : BitVec 1 := Scalar.cmpi .eq arg1 c7_i32
  let v816 : BitVec 32 := Scalar.extui v815
  let c0_i32_304 : BitVec 32 := 0#32
  let v817 : BitVec 1 := Scalar.cmpi .ne v816 c0_i32_304
  v817

def k0_cond5 (i : grid0.Coords) : BitVec 1 :=
  let arg0 : BitVec 32 := BitVec.ofNat 32 (i 0).val
  let c0_i32_385 : BitVec 32 := 0#32
  let v946 : BitVec 1 := Scalar.cmpi .eq arg0 c0_i32_385
  let v947 : BitVec 32 := Scalar.extui v946
  let c0_i32_386 : BitVec 32 := 0#32
  let v948 : BitVec 1 := Scalar.cmpi .ne v947 c0_i32_386
  v948

def k0_cond6 (i : grid0.Coords) : BitVec 1 :=
  let arg0 : BitVec 32 := BitVec.ofNat 32 (i 0).val
  let c1_i32 : BitVec 32 := 1#32
  let v949 : BitVec 1 := Scalar.cmpi .eq arg0 c1_i32
  let v950 : BitVec 32 := Scalar.extui v949
  let c0_i32_387 : BitVec 32 := 0#32
  let v951 : BitVec 1 := Scalar.cmpi .ne v950 c0_i32_387
  v951

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x768 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x768 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x2048 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S2x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== KernelIdeal.lean ====
variable {F : FTy → Type} [FloatOps F] [Named F]
def κ : String → Option EReal := fun
  | "ln2" => some ((Real.log 2 : ℝ) : EReal)
  | "ln2_inv_s" => some (((Real.log 2) * 2048⁻¹ : ℝ) : EReal)
  | "log2e" => some (((Real.log 2)⁻¹ : ℝ) : EReal)
  | _ => none
-- ==== ReferenceIdeal.lean ====
abbrev S2x2048x768 : Shape := ⟨3, ![2, 2048, 768]⟩
abbrev S2x2048 : Shape := ⟨2, ![2, 2048]⟩
abbrev S_ : Shape := ⟨0, ![]⟩
abbrev S1x1 : Shape := ⟨2, ![1, 1]⟩
abbrev S2x2048x1 : Shape := ⟨3, ![2, 2048, 1]⟩
abbrev S2x2048x2048 : Shape := ⟨3, ![2, 2048, 2048]⟩
abbrev S2x1x2048 : Shape := ⟨3, ![2, 1, 2048]⟩

abbrev nBuf : Space → Nat
  | .hbm => 14
  | .vmem => 12
  | .smem => 0
  | _ => 0

abbrev bufTy : (tb : Table) → Fin (tcTables nBuf tb) → BufTy
  | .hbm, ⟨0, _⟩ => ⟨S2x2048x768, .fp8e4m3⟩
  | .hbm, ⟨1, _⟩ => ⟨S2x2048, .f32⟩
  | .hbm, ⟨2, _⟩ => ⟨S2x2048x768, .fp8e4m3⟩
  | .hbm, ⟨3, _⟩ => ⟨S2x2048, .f32⟩
  | .hbm, ⟨4, _⟩ => ⟨S2x2048, .i32⟩
  | .hbm, ⟨5, _⟩ => ⟨S_, .f32⟩
  | .hbm, ⟨6, _⟩ => ⟨S_, .f32⟩
  | .hbm, ⟨7, _⟩ => ⟨S1x1, .f32⟩
  | .hbm, ⟨8, _⟩ => ⟨S1x1, .f32⟩
  | .hbm, ⟨9, _⟩ => ⟨S2x2048, .f32⟩
  | .hbm, ⟨10, _⟩ => ⟨S2x2048x768, .bf16⟩
  | .hbm, ⟨11, _⟩ => ⟨S2x2048x768, .bf16⟩
  | .hbm, ⟨12, _⟩ => ⟨S2x2048, .f32⟩
  | .hbm, ⟨13, _⟩ => ⟨S2x2048, .f32⟩
  | .local _ .vmem, ⟨0, _⟩ => ⟨S2x2048x768, .fp8e4m3⟩
  | .local _ .vmem, ⟨1, _⟩ => ⟨S2x2048, .f32⟩
  | .local _ .vmem, ⟨2, _⟩ => ⟨S2x2048x768, .fp8e4m3⟩
  | .local _ .vmem, ⟨3, _⟩ => ⟨S2x2048, .f32⟩
  | .local _ .vmem, ⟨4, _⟩ => ⟨S2x2048, .i32⟩
  | .local _ .vmem, ⟨5, _⟩ => ⟨S1x1, .f32⟩
  | .local _ .vmem, ⟨6, _⟩ => ⟨S1x1, .f32⟩
  | .local _ .vmem, ⟨7, _⟩ => ⟨S2x2048, .f32⟩
  | .local _ .vmem, ⟨8, _⟩ => ⟨S2x2048x768, .bf16⟩
  | .local _ .vmem, ⟨9, _⟩ => ⟨S2x2048x768, .bf16⟩
  | .local _ .vmem, ⟨10, _⟩ => ⟨S2x2048, .f32⟩
  | .local _ .vmem, ⟨11, _⟩ => ⟨S2x2048, .f32⟩
  | _, _ => ⟨S2x2048x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S2x2048x768 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2048x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2048 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x2048x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x2048x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Hand.Conds.lean ====
/- The body's branch conditions over the grid's points, the staging and scratch buffers by name, and the frame's post read off relational
   proof data. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 0#32)) 0#32) = 1#1
/-- It holds at the points before point 8 — by arithmetic of the point. -/
theorem hcond0_1 : ∀ t : Fin cfg0.N, cond0_1 (grid0.coords t) ↔ t.val < 8 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val < 8)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 0).val) 1#32)) 0#32) = 1#1
/-- It holds at the points from point 8 on — by arithmetic of the point. -/
theorem hcond0_2 : ∀ t : Fin cfg0.N, cond0_2 (grid0.coords t) ↔ 8 ≤ t.val :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_2, e0, e1]
    word_cmp
   : ∀ t : Fin grid0.N, cond0_2 (grid0.coords t) ↔ 8 ≤ t.val)

/-- The condition of the body's `scf.if` 3 (`k0_h4`), from the grid coordinates (the skeleton's scalar
    chain substituted). -/
abbrev cond0_3 (i : grid0.Coords) : Prop := k0_cond4 i = 1#1
/-- It holds at the points ≡ 7 (mod 8) — by arithmetic of the point. -/
theorem hcond0_3 : ∀ t : Fin cfg0.N, cond0_3 (grid0.coords t) ↔ t.val % 8 = 7 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_3, k0_cond4, e0, e1]
    word_cmp
   : ∀ t : Fin grid0.N, cond0_3 (grid0.coords t) ↔ t.val % 8 = 7)

/-- The condition of the body's `scf.if` 4 (`k0_h5`), from the grid coordinates (the skeleton's scalar
    chain substituted). -/
abbrev cond0_4 (i : grid0.Coords) : Prop := k0_cond5 i = 1#1
/-- It holds at the points before point 8 — by arithmetic of the point. -/
theorem hcond0_4 : ∀ t : Fin cfg0.N, cond0_4 (grid0.coords t) ↔ t.val < 8 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_4, k0_cond5, e0, e1]
    word_cmp
   : ∀ t : Fin grid0.N, cond0_4 (grid0.coords t) ↔ t.val < 8)

/-- The condition of the body's `scf.if` 5 (`k0_h6`), from the grid coordinates (the skeleton's scalar
    chain substituted). -/
abbrev cond0_5 (i : grid0.Coords) : Prop := k0_cond6 i = 1#1
/-- It holds at the points from point 8 on — by arithmetic of the point. -/
theorem hcond0_5 : ∀ t : Fin cfg0.N, cond0_5 (grid0.coords t) ↔ 8 ≤ t.val :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_5, k0_cond6, e0, e1]
    word_cmp
   : ∀ t : Fin grid0.N, cond0_5 (grid0.coords t) ↔ 8 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x256x768 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x768 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x2048 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x768 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048x768 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x2048 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x2048 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S2048x768 .bf16 := Memref.whole cc0_scratch0
abbrev scM0_1 : Memref sig .tc .vmem S768x2048 .f32 := Memref.whole cc0_scratch1
abbrev scM0_2 : Memref sig .tc .vmem S256x2048 .bf16 := Memref.whole cc0_scratch2
abbrev scM0_3 : Memref sig .tc .vmem S1x2048 .f32 := Memref.whole cc0_scratch3
abbrev scM0_4 : Memref sig .tc .vmem S1x2048 .f32 := Memref.whole cc0_scratch4
abbrev scM0_5 : Memref sig .tc .vmem S1x2048 .i32 := Memref.whole cc0_scratch5
abbrev scM0_6 : Memref sig .tc .vmem S3x1x2048 .f32 := Memref.whole cc0_scratch6
/-- The scratch `arg15` the kernel carries between points, as a view: what it holds is stated through it. -/
abbrev VS0_1 : View sig .tc .vmem S768x2048 .f32 := scM0_1.view
/-- The scratch `arg17` the kernel carries between points, as a view: what it holds is stated through it. -/
abbrev VS0_3 : View sig .tc .vmem S1x2048 .f32 := scM0_3.view
/-- The scratch `arg18` the kernel carries between points, as a view: what it holds is stated through it. -/
abbrev VS0_4 : View sig .tc .vmem S1x2048 .f32 := scM0_4.view
/-- The scratch `arg19` the kernel carries between points, as a view: what it holds is stated through it. -/
abbrev VS0_5 : View sig .tc .vmem S1x2048 .i32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Hand

end
-- ==== Proof.Hand.Stretches.lean ====
/- The kernel's body in three stretches: what it does first (the part that prepares a batch), the column loop with the stores after it,
   and what it does at a batch's last point. -/
module

public import proofs.«01_k».proof.Proof.Hand.Conds

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body from after its first part up to its last conditional, the rest `k` given the factor `t / 2048`. -/
noncomputable def midProg (i : grid0.Coords) (arg2 : Memref sig .tc .vmem S1x256x768 .fp8e4m3) (harg2 : arg2.IsWhole) (arg3 : Memref sig .tc .vmem S2x2048 .f32) (harg3 : arg3.IsWhole) (arg4 : Memref sig .tc .vmem S1x2048x768 .fp8e4m3) (harg4 : arg4.IsWhole) (arg5 : Memref sig .tc .vmem S2x2048 .f32) (harg5 : arg5.IsWhole) (arg6 : Memref sig .tc .vmem S2x2048 .i32) (harg6 : arg6.IsWhole) (arg7 : Memref sig .tc .smem S1x1 .f32) (harg7 : arg7.IsWhole) (arg8 : Memref sig .tc .smem S1x1 .f32) (harg8 : arg8.IsWhole) (arg9 : Memref sig .tc .vmem S2x2048 .f32) (harg9 : arg9.IsWhole) (arg10 : Memref sig .tc .vmem S1x256x768 .bf16) (harg10 : arg10.IsWhole) (arg11 : Memref sig .tc .vmem S1x2048x768 .bf16) (harg11 : arg11.IsWhole) (arg12 : Memref sig .tc .vmem S2x2048 .f32) (harg12 : arg12.IsWhole) (arg13 : Memref sig .tc .vmem S2x2048 .f32) (harg13 : arg13.IsWhole) (arg14 : Memref sig .tc .vmem S2048x768 .bf16) (harg14 : arg14.IsWhole) (arg15 : Memref sig .tc .vmem S768x2048 .f32) (harg15 : arg15.IsWhole) (arg16 : Memref sig .tc .vmem S256x2048 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .i32) (harg19 : arg19.IsWhole) (arg20 : Memref sig .tc .vmem S3x1x2048 .f32) (harg20 : arg20.IsWhole) (arg0 : BitVec 32) (arg1 : BitVec 32) (v2 : FVec F S1x128 .f32) (v4 : F .f32) (v9 : BitVec 32) (v31 : IVec S256x128 32) (v35 : FVec F S256x128 .f32) (v36 : FVec F S256x128 .bf16) (v41 : FVec F S128x256 .bf16)
    (k : FVec F S1x1 .f32 → Prog (TpuEff nD τ sig (Elt F) Λ₀ .tc) PUnit) : Prog (TpuEff nD τ sig (Elt F) Λ₀ .tc) PUnit := do
  let ⟨v67, v68, v73, v74, v75⟩ : Σ' (v67 : FVec F S768x256 .bf16) (v68 : FVec F S256x128 .f32) (v73 : FVec F S256x256 .f32) (v74 : Vec F S1x128 .f32), Vec F S1x128 .i32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v36 v41
  let ⟨v101, v103, v108, v109, v115, v119, v121⟩ : Σ' (v101 : FVec F S256x128 .f32) (v103 : FVec F S256x128 .f32) (v108 : FVec F S256x128 .f32) (v109 : FVec F S256x128 .f32) (v115 : Vec F S1x128 .i32) (v119 : FVec F S256x128 .f32), FVec F S256x128 .f32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v31 v35 v68 v73 v74 v75
  let ⟨v141, v143, v148, v149, v158, v159, v160⟩ : Σ' (v141 : FVec F S256x128 .f32) (v143 : FVec F S256x128 .f32) (v148 : FVec F S256x128 .f32) (v149 : FVec F S256x128 .f32) (v158 : FVec F S256x256 .f32) (v159 : Vec F S1x128 .f32), Vec F S1x128 .i32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v31 v101 v103 v108 v109 v115 v119 v121
  let ⟨v186, v188, v193, v194, v200, v204, v206⟩ : Σ' (v186 : FVec F S256x128 .f32) (v188 : FVec F S256x128 .f32) (v193 : FVec F S256x128 .f32) (v194 : FVec F S256x128 .f32) (v200 : Vec F S1x128 .i32) (v204 : FVec F S256x128 .f32), FVec F S256x128 .f32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v31 v35 v141 v143 v148 v149 v158 v159 v160
  let ⟨v226, v228, v233, v234, v243, v244, v245⟩ : Σ' (v226 : FVec F S256x128 .f32) (v228 : FVec F S256x128 .f32) (v233 : FVec F S256x128 .f32) (v234 : FVec F S256x128 .f32) (v243 : FVec F S256x256 .f32) (v244 : Vec F S1x128 .f32), Vec F S1x128 .i32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v31 v186 v188 v193 v194 v200 v204 v206
  let ⟨v271, v273, v278, v279, v285, v289, v291⟩ : Σ' (v271 : FVec F S256x128 .f32) (v273 : FVec F S256x128 .f32) (v278 : FVec F S256x128 .f32) (v279 : FVec F S256x128 .f32) (v285 : Vec F S1x128 .i32) (v289 : FVec F S256x128 .f32), FVec F S256x128 .f32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v31 v35 v226 v228 v233 v234 v243 v244 v245
  let ⟨v311, v313, v318, v319, v328, v329, v330⟩ : Σ' (v311 : FVec F S256x128 .f32) (v313 : FVec F S256x128 .f32) (v318 : FVec F S256x128 .f32) (v319 : FVec F S256x128 .f32) (v328 : FVec F S256x256 .f32) (v329 : Vec F S1x128 .f32), Vec F S1x128 .i32 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v31 v271 v273 v278 v279 v285 v289 v291
  let ⟨v356, v358, v363, v364, v370, v374, v376⟩ : Σ' (v356 : FVec F S256x128 .f32) (v358 : FVec F S256x128 .f32) (v363 : FVec F S256x128 .f32) (v364 : FVec F S256x128 .f32) (v370 : Vec F S1x128 .i32) (v374 : FVec F S256x128 .f32), FVec F S256x128 .f32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v31 v35 v311 v313 v318 v319 v328 v329 v330
  let ⟨v396, v398, v403, v404, v413, v414, v415⟩ : Σ' (v396 : FVec F S256x128 .f32) (v398 : FVec F S256x128 .f32) (v403 : FVec F S256x128 .f32) (v404 : FVec F S256x128 .f32) (v413 : FVec F S256x256 .f32) (v414 : Vec F S1x128 .f32), Vec F S1x128 .i32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v31 v356 v358 v363 v364 v370 v374 v376
  let ⟨v441, v443, v448, v449, v455, v459, v461⟩ : Σ' (v441 : FVec F S256x128 .f32) (v443 : FVec F S256x128 .f32) (v448 : FVec F S256x128 .f32) (v449 : FVec F S256x128 .f32) (v455 : Vec F S1x128 .i32) (v459 : FVec F S256x128 .f32), FVec F S256x128 .f32 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v31 v35 v396 v398 v403 v404 v413 v414 v415
  let ⟨v481, v483, v488, v489, v498, v499, v500⟩ : Σ' (v481 : FVec F S256x128 .f32) (v483 : FVec F S256x128 .f32) (v488 : FVec F S256x128 .f32) (v489 : FVec F S256x128 .f32) (v498 : FVec F S256x256 .f32) (v499 : Vec F S1x128 .f32), Vec F S1x128 .i32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v31 v441 v443 v448 v449 v455 v459 v461
  let ⟨v526, v528, v533, v534, v540, v544, v546⟩ : Σ' (v526 : FVec F S256x128 .f32) (v528 : FVec F S256x128 .f32) (v533 : FVec F S256x128 .f32) (v534 : FVec F S256x128 .f32) (v540 : Vec F S1x128 .i32) (v544 : FVec F S256x128 .f32), FVec F S256x128 .f32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v31 v35 v481 v483 v488 v489 v498 v499 v500
  let ⟨v566, v568, v573, v574, v583, v584, v585⟩ : Σ' (v566 : FVec F S256x128 .f32) (v568 : FVec F S256x128 .f32) (v573 : FVec F S256x128 .f32) (v574 : FVec F S256x128 .f32) (v583 : FVec F S256x256 .f32) (v584 : Vec F S1x128 .f32), Vec F S1x128 .i32 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v31 v526 v528 v533 v534 v540 v544 v546
  let ⟨v611, v613, v618, v619, v625, v629, v631⟩ : Σ' (v611 : FVec F S256x128 .f32) (v613 : FVec F S256x128 .f32) (v618 : FVec F S256x128 .f32) (v619 : FVec F S256x128 .f32) (v625 : Vec F S1x128 .i32) (v629 : FVec F S256x128 .f32), FVec F S256x128 .f32 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v31 v35 v566 v568 v573 v574 v583 v584 v585
  let ⟨v651, v653, v658, v659, v668, v669, v670⟩ : Σ' (v651 : FVec F S256x128 .f32) (v653 : FVec F S256x128 .f32) (v658 : FVec F S256x128 .f32) (v659 : FVec F S256x128 .f32) (v668 : FVec F S256x256 .f32) (v669 : Vec F S1x128 .f32), Vec F S1x128 .i32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v31 v611 v613 v618 v619 v625 v629 v631
  let ⟨v696, v698, v703, v704, v710, v714, v716⟩ : Σ' (v696 : FVec F S256x128 .f32) (v698 : FVec F S256x128 .f32) (v703 : FVec F S256x128 .f32) (v704 : FVec F S256x128 .f32) (v710 : Vec F S1x128 .i32) (v714 : FVec F S256x128 .f32), FVec F S256x128 .f32 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v31 v35 v651 v653 v658 v659 v668 v669 v670
  let ⟨v743, v744, v751, v759, v762⟩ : Σ' (v743 : FVec F S256x128 .f32) (v744 : FVec F S256x128 .f32) (v751 : FVec F S1x1 .f32) (v759 : FVec F S1x128 .f32), FVec F S128 .f32 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2 v31 v696 v698 v703 v704 v710 v714 v716
  let ⟨v801, v802⟩ : Σ' (v801 : FVec F S256x768 .f32), FVec F S256x768 .f32 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 v743 v744 v751 v759 v762
  let v805 : Vec F S1x256x768 .bf16 ← Prog.lift (.load arg10 (Rect.unit (s := S1x256x768) ![0, 0, 0] S1x256x768.size inb_S1x256x768_S1x256x768_0_0_0).toLoadRect (View.loadsAt_vmem h_S1x256x768))
  Prog.lift (.store arg10 (Rect.unit (s := S1x256x768) ![0, 0, 0] S1x256x768.size inb_S1x256x768_S1x256x768_0_0_0) (k0_pay1 v801 v802) Finset.univ (View.stores_vmem h_S1x256x768 (harg10.storeExact_slice rfl _ packedbf16_S1x256x768_S1x256x768_0_0_0) (fun _ => rfl)) (.inl rfl))
  let v808 : Vec F S768x2048 .f32 ← Prog.lift (.load arg15 (Rect.unit (s := S768x2048) ![0, 0] S768x2048.size inb_S768x2048_S768x2048_0_0).toLoadRect (View.loadsAt_vmem h_S768x2048))
  let v809 : Vec F S256x2048 .bf16 ← Prog.lift (.load arg16 (Rect.unit (s := S256x2048) ![0, 0] S256x2048.size inb_S256x2048_S256x2048_0_0).toLoadRect (View.loadsAt_vmem h_S256x2048))
  let v812 : Vec F S768x2048 .f32 ← Prog.lift (.load arg15 (Rect.unit (s := S768x2048) ![0, 0] S768x2048.size inb_S768x2048_S768x2048_0_0).toLoadRect (View.loadsAt_vmem h_S768x2048))
  Prog.lift (.store arg15 (Rect.unit (s := S768x2048) ![0, 0] S768x2048.size inb_S768x2048_S768x2048_0_0) (k0_pay2 v67 v808 v809) Finset.univ (View.stores_vmem_bits_univ h_S768x2048 rfl) (.inl rfl))
  k v751

/-- The body's last conditional: at a batch's last point the transposed `dy` is stored out and the batch's rows are copied. -/
noncomputable def sufProg (i : grid0.Coords) (arg2 : Memref sig .tc .vmem S1x256x768 .fp8e4m3) (harg2 : arg2.IsWhole) (arg3 : Memref sig .tc .vmem S2x2048 .f32) (harg3 : arg3.IsWhole) (arg4 : Memref sig .tc .vmem S1x2048x768 .fp8e4m3) (harg4 : arg4.IsWhole) (arg5 : Memref sig .tc .vmem S2x2048 .f32) (harg5 : arg5.IsWhole) (arg6 : Memref sig .tc .vmem S2x2048 .i32) (harg6 : arg6.IsWhole) (arg7 : Memref sig .tc .smem S1x1 .f32) (harg7 : arg7.IsWhole) (arg8 : Memref sig .tc .smem S1x1 .f32) (harg8 : arg8.IsWhole) (arg9 : Memref sig .tc .vmem S2x2048 .f32) (harg9 : arg9.IsWhole) (arg10 : Memref sig .tc .vmem S1x256x768 .bf16) (harg10 : arg10.IsWhole) (arg11 : Memref sig .tc .vmem S1x2048x768 .bf16) (harg11 : arg11.IsWhole) (arg12 : Memref sig .tc .vmem S2x2048 .f32) (harg12 : arg12.IsWhole) (arg13 : Memref sig .tc .vmem S2x2048 .f32) (harg13 : arg13.IsWhole) (arg14 : Memref sig .tc .vmem S2048x768 .bf16) (harg14 : arg14.IsWhole) (arg15 : Memref sig .tc .vmem S768x2048 .f32) (harg15 : arg15.IsWhole) (arg16 : Memref sig .tc .vmem S256x2048 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .i32) (harg19 : arg19.IsWhole) (arg20 : Memref sig .tc .vmem S3x1x2048 .f32) (harg20 : arg20.IsWhole) (v751 : FVec F S1x1 .f32) : Prog (TpuEff nD τ sig (Elt F) Λ₀ .tc) PUnit := do
  if k0_h4 : k0_cond4 i = 1#1 then do
    let ⟨v850, v851⟩ : Σ' (v850 : Vec F S768x128 .f32), FVec F S768x128 .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751
    let v886 : FVec F S128x768 .bf16 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 v850 v851
    let v918 : FVec F S128x768 .bf16 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 v886
    Prog.lift (.store arg11 (Rect.unit (s := S1x2048x768) ![0, 1536, 0] S1x128x768.size inb_S1x2048x768_S1x128x768_0_1536_0) (k0_pay3 v918) Finset.univ (View.stores_vmem h_S1x128x768 (harg11.storeExact_slice rfl _ packedbf16_S1x2048x768_S1x128x768_0_1536_0) (fun _ => rfl)) (.inl rfl))
    let v922 : Vec F S768x128 .f32 ← Prog.lift (.load arg15 (Rect.unit (s := S768x2048) ![0, 1664] S768x128.size inb_S768x2048_S768x128_0_1664).toLoadRect (View.loadsAt_vmem h_S768x128))
    let v927 : Vec F S1x128x768 .bf16 ← Prog.lift (.load arg11 (Rect.unit (s := S1x2048x768) ![0, 1664, 0] S1x128x768.size inb_S1x2048x768_S1x128x768_0_1664_0).toLoadRect (View.loadsAt_vmem h_S1x128x768))
    Prog.lift (.store arg11 (Rect.unit (s := S1x2048x768) ![0, 1664, 0] S1x128x768.size inb_S1x2048x768_S1x128x768_0_1664_0) (k0_pay4 v751 v922) Finset.univ (View.stores_vmem h_S1x128x768 (harg11.storeExact_slice rfl _ packedbf16_S1x2048x768_S1x128x768_0_1664_0) (fun _ => rfl)) (.inl rfl))
    let v930 : Vec F S768x128 .f32 ← Prog.lift (.load arg15 (Rect.unit (s := S768x2048) ![0, 1792] S768x128.size inb_S768x2048_S768x128_0_1792).toLoadRect (View.loadsAt_vmem h_S768x128))
    let v935 : Vec F S1x128x768 .bf16 ← Prog.lift (.load arg11 (Rect.unit (s := S1x2048x768) ![0, 1792, 0] S1x128x768.size inb_S1x2048x768_S1x128x768_0_1792_0).toLoadRect (View.loadsAt_vmem h_S1x128x768))
    Prog.lift (.store arg11 (Rect.unit (s := S1x2048x768) ![0, 1792, 0] S1x128x768.size inb_S1x2048x768_S1x128x768_0_1792_0) (k0_pay5 v751 v930) Finset.univ (View.stores_vmem h_S1x128x768 (harg11.storeExact_slice rfl _ packedbf16_S1x2048x768_S1x128x768_0_1792_0) (fun _ => rfl)) (.inl rfl))
    let v938 : Vec F S768x128 .f32 ← Prog.lift (.load arg15 (Rect.unit (s := S768x2048) ![0, 1920] S768x128.size inb_S768x2048_S768x128_0_1920).toLoadRect (View.loadsAt_vmem h_S768x128))
    let v943 : Vec F S1x128x768 .bf16 ← Prog.lift (.load arg11 (Rect.unit (s := S1x2048x768) ![0, 1920, 0] S1x128x768.size inb_S1x2048x768_S1x128x768_0_1920_0).toLoadRect (View.loadsAt_vmem h_S1x128x768))
    Prog.lift (.store arg11 (Rect.unit (s := S1x2048x768) ![0, 1920, 0] S1x128x768.size inb_S1x2048x768_S1x128x768_0_1920_0) (k0_pay6 v751 v938) Finset.univ (View.stores_vmem h_S1x128x768 (harg11.storeExact_slice rfl _ packedbf16_S1x2048x768_S1x128x768_0_1920_0) (fun _ => rfl)) (.inl rfl))
    if k0_h5 : k0_cond5 i = 1#1 then do
      let v952 : Vec F S1x1x2048 .f32 ← Prog.lift (.load arg20 (Rect.unit (s := S3x1x2048) ![0, 0, 0] S1x1x2048.size inb_S3x1x2048_S1x1x2048_0_0_0).toLoadRect (View.loadsAt_vmem h_S1x1x2048))
      let v954 : Vec F S1x2048 .f32 ← Prog.lift (.load arg9 (Rect.unit (s := S2x2048) ![0, 0] S1x2048.size inb_S2x2048_S1x2048_0_0).toLoadRect (View.loadsAt_vmem h_S1x2048))
      Prog.lift (.store arg9 (Rect.unit (s := S2x2048) ![0, 0] S1x2048.size inb_S2x2048_S1x2048_0_0) (k0_pay7 v952) Finset.univ (View.stores_vmem_bits_univ h_S1x2048 rfl) (.inl rfl))
      let v955 : Vec F S1x1x2048 .f32 ← Prog.lift (.load arg20 (Rect.unit (s := S3x1x2048) ![1, 0, 0] S1x1x2048.size inb_S3x1x2048_S1x1x2048_1_0_0).toLoadRect (View.loadsAt_vmem h_S1x1x2048))
      let v957 : Vec F S1x2048 .f32 ← Prog.lift (.load arg12 (Rect.unit (s := S2x2048) ![0, 0] S1x2048.size inb_S2x2048_S1x2048_0_0).toLoadRect (View.loadsAt_vmem h_S1x2048))
      Prog.lift (.store arg12 (Rect.unit (s := S2x2048) ![0, 0] S1x2048.size inb_S2x2048_S1x2048_0_0) (k0_pay8 v955) Finset.univ (View.stores_vmem_bits_univ h_S1x2048 rfl) (.inl rfl))
      let v958 : Vec F S1x1x2048 .f32 ← Prog.lift (.load arg20 (Rect.unit (s := S3x1x2048) ![2, 0, 0] S1x1x2048.size inb_S3x1x2048_S1x1x2048_2_0_0).toLoadRect (View.loadsAt_vmem h_S1x1x2048))
      let v960 : Vec F S1x2048 .f32 ← Prog.lift (.load arg13 (Rect.unit (s := S2x2048) ![0, 0] S1x2048.size inb_S2x2048_S1x2048_0_0).toLoadRect (View.loadsAt_vmem h_S1x2048))
      Prog.lift (.store arg13 (Rect.unit (s := S2x2048) ![0, 0] S1x2048.size inb_S2x2048_S1x2048_0_0) (k0_pay9 v958) Finset.univ (View.stores_vmem_bits_univ h_S1x2048 rfl) (.inl rfl))
      pure ⟨⟩
    else do
      pure ⟨⟩
    if k0_h6 : k0_cond6 i = 1#1 then do
      let v952 : Vec F S1x1x2048 .f32 ← Prog.lift (.load arg20 (Rect.unit (s := S3x1x2048) ![0, 0, 0] S1x1x2048.size inb_S3x1x2048_S1x1x2048_0_0_0).toLoadRect (View.loadsAt_vmem h_S1x1x2048))
      let v954 : Vec F S1x2048 .f32 ← Prog.lift (.load arg9 (Rect.unit (s := S2x2048) ![1, 0] S1x2048.size inb_S2x2048_S1x2048_1_0).toLoadRect (View.loadsAt_vmem h_S1x2048))
      Prog.lift (.store arg9 (Rect.unit (s := S2x2048) ![1, 0] S1x2048.size inb_S2x2048_S1x2048_1_0) (k0_pay10 v952) Finset.univ (View.stores_vmem_bits_univ h_S1x2048 rfl) (.inl rfl))
      let v955 : Vec F S1x1x2048 .f32 ← Prog.lift (.load arg20 (Rect.unit (s := S3x1x2048) ![1, 0, 0] S1x1x2048.size inb_S3x1x2048_S1x1x2048_1_0_0).toLoadRect (View.loadsAt_vmem h_S1x1x2048))
      let v957 : Vec F S1x2048 .f32 ← Prog.lift (.load arg12 (Rect.unit (s := S2x2048) ![1, 0] S1x2048.size inb_S2x2048_S1x2048_1_0).toLoadRect (View.loadsAt_vmem h_S1x2048))
      Prog.lift (.store arg12 (Rect.unit (s := S2x2048) ![1, 0] S1x2048.size inb_S2x2048_S1x2048_1_0) (k0_pay11 v955) Finset.univ (View.stores_vmem_bits_univ h_S1x2048 rfl) (.inl rfl))
      let v958 : Vec F S1x1x2048 .f32 ← Prog.lift (.load arg20 (Rect.unit (s := S3x1x2048) ![2, 0, 0] S1x1x2048.size inb_S3x1x2048_S1x1x2048_2_0_0).toLoadRect (View.loadsAt_vmem h_S1x1x2048))
      let v960 : Vec F S1x2048 .f32 ← Prog.lift (.load arg13 (Rect.unit (s := S2x2048) ![1, 0] S1x2048.size inb_S2x2048_S1x2048_1_0).toLoadRect (View.loadsAt_vmem h_S1x2048))
      Prog.lift (.store arg13 (Rect.unit (s := S2x2048) ![1, 0] S1x2048.size inb_S2x2048_S1x2048_1_0) (k0_pay12 v958) Finset.univ (View.stores_vmem_bits_univ h_S1x2048 rfl) (.inl rfl))
      pure ⟨⟩
    else do
      pure ⟨⟩
    pure ⟨⟩
  else do
    pure ⟨⟩
  pure ⟨⟩

/-- The body is its three stretches in order. -/
theorem body_eq (i : grid0.Coords) (arg2 : Memref sig .tc .vmem S1x256x768 .fp8e4m3) (harg2 : arg2.IsWhole) (arg3 : Memref sig .tc .vmem S2x2048 .f32) (harg3 : arg3.IsWhole) (arg4 : Memref sig .tc .vmem S1x2048x768 .fp8e4m3) (harg4 : arg4.IsWhole) (arg5 : Memref sig .tc .vmem S2x2048 .f32) (harg5 : arg5.IsWhole) (arg6 : Memref sig .tc .vmem S2x2048 .i32) (harg6 : arg6.IsWhole) (arg7 : Memref sig .tc .smem S1x1 .f32) (harg7 : arg7.IsWhole) (arg8 : Memref sig .tc .smem S1x1 .f32) (harg8 : arg8.IsWhole) (arg9 : Memref sig .tc .vmem S2x2048 .f32) (harg9 : arg9.IsWhole) (arg10 : Memref sig .tc .vmem S1x256x768 .bf16) (harg10 : arg10.IsWhole) (arg11 : Memref sig .tc .vmem S1x2048x768 .bf16) (harg11 : arg11.IsWhole) (arg12 : Memref sig .tc .vmem S2x2048 .f32) (harg12 : arg12.IsWhole) (arg13 : Memref sig .tc .vmem S2x2048 .f32) (harg13 : arg13.IsWhole) (arg14 : Memref sig .tc .vmem S2048x768 .bf16) (harg14 : arg14.IsWhole) (arg15 : Memref sig .tc .vmem S768x2048 .f32) (harg15 : arg15.IsWhole) (arg16 : Memref sig .tc .vmem S256x2048 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .i32) (harg19 : arg19.IsWhole) (arg20 : Memref sig .tc .vmem S3x1x2048 .f32) (harg20 : arg20.IsWhole) :
    cc0_siglip_fwd_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 >>= fun v =>
      midProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v.1 v.2.1 v.2.2.1 v.2.2.2.1 v.2.2.2.2.1 v.2.2.2.2.2.1 v.2.2.2.2.2.2.1 v.2.2.2.2.2.2.2.1 v.2.2.2.2.2.2.2.2 (sufProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)) := by
  rw [cc0_siglip_fwd_bwd_eq_skeleton]; rfl

end Cert.KernelIdeal.Hand

end
-- ==== Proof.Hand.PreA.lean ====
/- The first stretch of the body at the first point of the first batch. -/
module

public import proofs.«01_k».proof.Proof.Hand.Stretches

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The first stretch at the first point of the first batch: the scales and ids of the batch, the scaled `y` and the cleared accumulator are stored. The pieces stored are found by the run. -/
noncomputable def preA (c : Dev nD) (i : grid0.Coords) (arg2 : Memref sig .tc .vmem S1x256x768 .fp8e4m3) (harg2 : arg2.IsWhole) (arg3 : Memref sig .tc .vmem S2x2048 .f32) (harg3 : arg3.IsWhole) (arg4 : Memref sig .tc .vmem S1x2048x768 .fp8e4m3) (harg4 : arg4.IsWhole) (arg5 : Memref sig .tc .vmem S2x2048 .f32) (harg5 : arg5.IsWhole) (arg6 : Memref sig .tc .vmem S2x2048 .i32) (harg6 : arg6.IsWhole) (arg7 : Memref sig .tc .smem S1x1 .f32) (harg7 : arg7.IsWhole) (arg8 : Memref sig .tc .smem S1x1 .f32) (harg8 : arg8.IsWhole) (arg9 : Memref sig .tc .vmem S2x2048 .f32) (harg9 : arg9.IsWhole) (arg10 : Memref sig .tc .vmem S1x256x768 .bf16) (harg10 : arg10.IsWhole) (arg11 : Memref sig .tc .vmem S1x2048x768 .bf16) (harg11 : arg11.IsWhole) (arg12 : Memref sig .tc .vmem S2x2048 .f32) (harg12 : arg12.IsWhole) (arg13 : Memref sig .tc .vmem S2x2048 .f32) (harg13 : arg13.IsWhole) (arg14 : Memref sig .tc .vmem S2048x768 .bf16) (harg14 : arg14.IsWhole) (arg15 : Memref sig .tc .vmem S768x2048 .f32) (harg15 : arg15.IsWhole) (arg16 : Memref sig .tc .vmem S256x2048 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .i32) (harg19 : arg19.IsWhole) (arg20 : Memref sig .tc .vmem S3x1x2048 .f32) (harg20 : arg20.IsWhole) (hc0 : cond0_0 i) (hc1 : cond0_1 i) (hc2 : ¬cond0_2 i)
    (x2 : Vec F S1x256x768 .fp8e4m3) (x3 : Vec F S2x2048 .f32) (x4 : Vec F S1x2048x768 .fp8e4m3) (x5 : Vec F S2x2048 .f32) (x6 : Vec F S2x2048 .i32) (x7 : Vec F S1x1 .f32) (x8 : Vec F S1x1 .f32) :
    Σ' (V : (Σ' (arg0 : BitVec 32) (arg1 : BitVec 32) (v2 : FVec F S1x128 .f32) (v4 : F .f32) (v9 : BitVec 32) (v31 : IVec S256x128 32) (v35 : FVec F S256x128 .f32) (v36 : FVec F S256x128 .bf16), FVec F S128x256 .bf16)), Σ' (L14 : List (View.Piece (Elt F) S2048x768 .bf16)), Σ' (L15 : List (View.Piece (Elt F) S768x2048 .f32)), Σ' (L17 : List (View.Piece (Elt F) S1x2048 .f32)), Σ' (L18 : List (View.Piece (Elt F) S1x2048 .f32)), { L19 : List (View.Piece (Elt F) S1x2048 .i32) //
      ∀ (E : Set ℕ) (kk : (Σ' (arg0 : BitVec 32) (arg1 : BitVec 32) (v2 : FVec F S1x128 .f32) (v4 : F .f32) (v9 : BitVec 32) (v31 : IVec S256x128 32) (v35 : FVec F S256x128 .f32) (v36 : FVec F S256x128 .bf16), FVec F S128x256 .bf16) → Prog (TpuEff nD τ sig (Elt F) Λ₀ .tc) PUnit) (Q : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg14 fullShare d) ∗ (∃ d, owns (c : Thread nD τ) arg15 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19)) -∗ wp frame (wpE (defs₀ (F := F)) Variants.none c none) E (kk V) Q))
          ⊢ wp frame (wpE (defs₀ (F := F)) Variants.none c none) E (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 >>= kk) Q } := by
  refine ⟨?_, ?_, ?_, ?_, ?_, ?_, fun E kk Q => ?run⟩
  case run =>

    simp only [k0_part6_eq_skeleton, k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d14, %f14, -, H14⟩, ⟨%d15, %f15, -, H15⟩, ⟨%d17, %f17, -, H17⟩, ⟨%d18, %f18, -, H18⟩, ⟨%d19, %f19, -, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hc0 | sl_exact hc1 | sl_exact hc2)
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H14]; · iexists _; iexact H14
    isplitl [H15]; · iexists _; iexact H15
    isplitl [H17]; · iexists _; iexact H17
    isplitl [H18]; · iexists _; iexact H18
    iexists _; iexact H19

end Cert.KernelIdeal.Hand

end
-- ==== Proof.Hand.PreD.lean ====
/- The first stretch of the body at the first point of the second batch. -/
module

public import proofs.«01_k».proof.Proof.Hand.PreA

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The first stretch at the first point of the second batch: the scales and ids of the batch, the scaled `y` and the cleared accumulator are stored. The pieces stored are found by the run. -/
noncomputable def preD (c : Dev nD) (i : grid0.Coords) (arg2 : Memref sig .tc .vmem S1x256x768 .fp8e4m3) (harg2 : arg2.IsWhole) (arg3 : Memref sig .tc .vmem S2x2048 .f32) (harg3 : arg3.IsWhole) (arg4 : Memref sig .tc .vmem S1x2048x768 .fp8e4m3) (harg4 : arg4.IsWhole) (arg5 : Memref sig .tc .vmem S2x2048 .f32) (harg5 : arg5.IsWhole) (arg6 : Memref sig .tc .vmem S2x2048 .i32) (harg6 : arg6.IsWhole) (arg7 : Memref sig .tc .smem S1x1 .f32) (harg7 : arg7.IsWhole) (arg8 : Memref sig .tc .smem S1x1 .f32) (harg8 : arg8.IsWhole) (arg9 : Memref sig .tc .vmem S2x2048 .f32) (harg9 : arg9.IsWhole) (arg10 : Memref sig .tc .vmem S1x256x768 .bf16) (harg10 : arg10.IsWhole) (arg11 : Memref sig .tc .vmem S1x2048x768 .bf16) (harg11 : arg11.IsWhole) (arg12 : Memref sig .tc .vmem S2x2048 .f32) (harg12 : arg12.IsWhole) (arg13 : Memref sig .tc .vmem S2x2048 .f32) (harg13 : arg13.IsWhole) (arg14 : Memref sig .tc .vmem S2048x768 .bf16) (harg14 : arg14.IsWhole) (arg15 : Memref sig .tc .vmem S768x2048 .f32) (harg15 : arg15.IsWhole) (arg16 : Memref sig .tc .vmem S256x2048 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .i32) (harg19 : arg19.IsWhole) (arg20 : Memref sig .tc .vmem S3x1x2048 .f32) (harg20 : arg20.IsWhole) (hc0 : cond0_0 i) (hc1 : ¬cond0_1 i) (hc2 : cond0_2 i)
    (x2 : Vec F S1x256x768 .fp8e4m3) (x3 : Vec F S2x2048 .f32) (x4 : Vec F S1x2048x768 .fp8e4m3) (x5 : Vec F S2x2048 .f32) (x6 : Vec F S2x2048 .i32) (x7 : Vec F S1x1 .f32) (x8 : Vec F S1x1 .f32) :
    Σ' (V : (Σ' (arg0 : BitVec 32) (arg1 : BitVec 32) (v2 : FVec F S1x128 .f32) (v4 : F .f32) (v9 : BitVec 32) (v31 : IVec S256x128 32) (v35 : FVec F S256x128 .f32) (v36 : FVec F S256x128 .bf16), FVec F S128x256 .bf16)), Σ' (L14 : List (View.Piece (Elt F) S2048x768 .bf16)), Σ' (L15 : List (View.Piece (Elt F) S768x2048 .f32)), Σ' (L17 : List (View.Piece (Elt F) S1x2048 .f32)), Σ' (L18 : List (View.Piece (Elt F) S1x2048 .f32)), { L19 : List (View.Piece (Elt F) S1x2048 .i32) //
      ∀ (E : Set ℕ) (kk : (Σ' (arg0 : BitVec 32) (arg1 : BitVec 32) (v2 : FVec F S1x128 .f32) (v4 : F .f32) (v9 : BitVec 32) (v31 : IVec S256x128 32) (v35 : FVec F S256x128 .f32) (v36 : FVec F S256x128 .bf16), FVec F S128x256 .bf16) → Prog (TpuEff nD τ sig (Elt F) Λ₀ .tc) PUnit) (Q : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg14 fullShare d) ∗ (∃ d, owns (c : Thread nD τ) arg15 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19)) -∗ wp frame (wpE (defs₀ (F := F)) Variants.none c none) E (kk V) Q))
          ⊢ wp frame (wpE (defs₀ (F := F)) Variants.none c none) E (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 >>= kk) Q } := by
  refine ⟨?_, ?_, ?_, ?_, ?_, ?_, fun E kk Q => ?run⟩
  case run =>

    simp only [k0_part6_eq_skeleton, k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d14, %f14, -, H14⟩, ⟨%d15, %f15, -, H15⟩, ⟨%d17, %f17, -, H17⟩, ⟨%d18, %f18, -, H18⟩, ⟨%d19, %f19, -, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hc0 | sl_exact hc1 | sl_exact hc2)
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H14]; · iexists _; iexact H14
    isplitl [H15]; · iexists _; iexact H15
    isplitl [H17]; · iexists _; iexact H17
    isplitl [H18]; · iexists _; iexact H18
    iexists _; iexact H19

end Cert.KernelIdeal.Hand

end
-- ==== Proof.Hand.PreB.lean ====
/- The first stretch of the body at a point that is not the first of its batch. -/
module

public import proofs.«01_k».proof.Proof.Hand.PreD

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The first stretch at a point that is not the first of its batch: nothing is stored. The pieces stored are found by the run. -/
noncomputable def preB (c : Dev nD) (i : grid0.Coords) (arg2 : Memref sig .tc .vmem S1x256x768 .fp8e4m3) (harg2 : arg2.IsWhole) (arg3 : Memref sig .tc .vmem S2x2048 .f32) (harg3 : arg3.IsWhole) (arg4 : Memref sig .tc .vmem S1x2048x768 .fp8e4m3) (harg4 : arg4.IsWhole) (arg5 : Memref sig .tc .vmem S2x2048 .f32) (harg5 : arg5.IsWhole) (arg6 : Memref sig .tc .vmem S2x2048 .i32) (harg6 : arg6.IsWhole) (arg7 : Memref sig .tc .smem S1x1 .f32) (harg7 : arg7.IsWhole) (arg8 : Memref sig .tc .smem S1x1 .f32) (harg8 : arg8.IsWhole) (arg9 : Memref sig .tc .vmem S2x2048 .f32) (harg9 : arg9.IsWhole) (arg10 : Memref sig .tc .vmem S1x256x768 .bf16) (harg10 : arg10.IsWhole) (arg11 : Memref sig .tc .vmem S1x2048x768 .bf16) (harg11 : arg11.IsWhole) (arg12 : Memref sig .tc .vmem S2x2048 .f32) (harg12 : arg12.IsWhole) (arg13 : Memref sig .tc .vmem S2x2048 .f32) (harg13 : arg13.IsWhole) (arg14 : Memref sig .tc .vmem S2048x768 .bf16) (harg14 : arg14.IsWhole) (arg15 : Memref sig .tc .vmem S768x2048 .f32) (harg15 : arg15.IsWhole) (arg16 : Memref sig .tc .vmem S256x2048 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .i32) (harg19 : arg19.IsWhole) (arg20 : Memref sig .tc .vmem S3x1x2048 .f32) (harg20 : arg20.IsWhole) (hc0 : ¬cond0_0 i)
    (x2 : Vec F S1x256x768 .fp8e4m3) (x7 : Vec F S1x1 .f32) (x8 : Vec F S1x1 .f32) (x17 : Vec F S1x2048 .f32) (x19 : Vec F S1x2048 .i32) :
    { V : (Σ' (arg0 : BitVec 32) (arg1 : BitVec 32) (v2 : FVec F S1x128 .f32) (v4 : F .f32) (v9 : BitVec 32) (v31 : IVec S256x128 32) (v35 : FVec F S256x128 .f32) (v36 : FVec F S256x128 .bf16), FVec F S128x256 .bf16) //
      ∀ (E : Set ℕ) (kk : (Σ' (arg0 : BitVec 32) (arg1 : BitVec 32) (v2 : FVec F S1x128 .f32) (v4 : F .f32) (v9 : BitVec 32) (v31 : IVec S256x128 32) (v35 : FVec F S256x128 .f32) (v36 : FVec F S256x128 .bf16), FVec F S128x256 .bf16) → Prog (TpuEff nD τ sig (Elt F) Λ₀ .tc) PUnit) (Q : PUnit → sProp 𝕄),
        iprop(owns (c : Thread nD τ) arg2 fullShare x2 ∗ owns (c : Thread nD τ) arg7 fullShare x7 ∗ owns (c : Thread nD τ) arg8 fullShare x8 ∗ owns (c : Thread nD τ) arg17 fullShare x17 ∗ owns (c : Thread nD τ) arg19 fullShare x19
            ∗ (iprop(owns (c : Thread nD τ) arg2 fullShare x2 ∗ owns (c : Thread nD τ) arg7 fullShare x7 ∗ owns (c : Thread nD τ) arg8 fullShare x8 ∗ owns (c : Thread nD τ) arg17 fullShare x17 ∗ owns (c : Thread nD τ) arg19 fullShare x19) -∗ wp frame (wpE (defs₀ (F := F)) Variants.none c none) E (kk V) Q))
          ⊢ wp frame (wpE (defs₀ (F := F)) Variants.none c none) E (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 >>= kk) Q } := by
  refine ⟨?_, fun E kk Q => ?run⟩
  case run =>

    simp only [k0_part6_eq_skeleton]
    unfold owns
    iintro ⟨⟨%f2, %hf2, H2⟩, ⟨%f7, %hf7, H7⟩, ⟨%f8, %hf8, H8⟩, ⟨%f17, %hf17, H17⟩, ⟨%f19, %hf19, H19⟩, Hk⟩
    obtain rfl := harg2.eq_unread hf2; obtain rfl := harg7.eq_unread hf7; obtain rfl := harg8.eq_unread hf8; obtain rfl := harg17.eq_unread hf17; obtain rfl := harg19.eq_unread hf19
    sl_exec (disch := first | sl_exact hc0)
    iapply Hk
    isplitl [H2]
    · iexists _; isplitr; · ipureintro; exact harg2.read_unread _
      iexact H2
    isplitl [H7]
    · iexists _; isplitr; · ipureintro; exact harg7.read_unread _
      iexact H7
    isplitl [H8]
    · iexists _; isplitr; · ipureintro; exact harg8.read_unread _
      iexact H8
    isplitl [H17]
    · iexists _; isplitr; · ipureintro; exact harg17.read_unread _
      iexact H17
    iexists _; isplitr; · ipureintro; exact harg19.read_unread _
    iexact H19

end Cert.KernelIdeal.Hand

end
-- ==== Proof.Hand.Mid.lean ====
/- The column loop of the body and the stores after it, at any point. -/
module

public import proofs.«01_k».proof.Proof.Hand.PreB

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The column loop and the stores after it: the gradient of the logits, the rows of the three sums, `dx`, and one term added into the accumulator of `dy`. The pieces stored are found by the run. -/
noncomputable def mid (c : Dev nD) (i : grid0.Coords) (arg2 : Memref sig .tc .vmem S1x256x768 .fp8e4m3) (harg2 : arg2.IsWhole) (arg3 : Memref sig .tc .vmem S2x2048 .f32) (harg3 : arg3.IsWhole) (arg4 : Memref sig .tc .vmem S1x2048x768 .fp8e4m3) (harg4 : arg4.IsWhole) (arg5 : Memref sig .tc .vmem S2x2048 .f32) (harg5 : arg5.IsWhole) (arg6 : Memref sig .tc .vmem S2x2048 .i32) (harg6 : arg6.IsWhole) (arg7 : Memref sig .tc .smem S1x1 .f32) (harg7 : arg7.IsWhole) (arg8 : Memref sig .tc .smem S1x1 .f32) (harg8 : arg8.IsWhole) (arg9 : Memref sig .tc .vmem S2x2048 .f32) (harg9 : arg9.IsWhole) (arg10 : Memref sig .tc .vmem S1x256x768 .bf16) (harg10 : arg10.IsWhole) (arg11 : Memref sig .tc .vmem S1x2048x768 .bf16) (harg11 : arg11.IsWhole) (arg12 : Memref sig .tc .vmem S2x2048 .f32) (harg12 : arg12.IsWhole) (arg13 : Memref sig .tc .vmem S2x2048 .f32) (harg13 : arg13.IsWhole) (arg14 : Memref sig .tc .vmem S2048x768 .bf16) (harg14 : arg14.IsWhole) (arg15 : Memref sig .tc .vmem S768x2048 .f32) (harg15 : arg15.IsWhole) (arg16 : Memref sig .tc .vmem S256x2048 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .i32) (harg19 : arg19.IsWhole) (arg20 : Memref sig .tc .vmem S3x1x2048 .f32) (harg20 : arg20.IsWhole)  (arg0 : BitVec 32) (arg1 : BitVec 32) (v2 : FVec F S1x128 .f32) (v4 : F .f32) (v9 : BitVec 32) (v31 : IVec S256x128 32) (v35 : FVec F S256x128 .f32) (v36 : FVec F S256x128 .bf16) (v41 : FVec F S128x256 .bf16)
    (x2 : Vec F S1x256x768 .fp8e4m3) (x4 : Vec F S1x2048x768 .fp8e4m3) (x10 : Vec F S1x256x768 .bf16) (x14 : Vec F S2048x768 .bf16) (x15 : Vec F S768x2048 .f32) (x16 : Vec F S256x2048 .bf16) (x18 : Vec F S1x2048 .f32) (x19 : Vec F S1x2048 .i32) (x20 : Vec F S3x1x2048 .f32) :
    Σ' (L10 : List (View.Piece (Elt F) S1x256x768 .bf16)), Σ' (L15 : List (View.Piece (Elt F) S768x2048 .f32)), Σ' (L16 : List (View.Piece (Elt F) S256x2048 .bf16)), { L20 : List (View.Piece (Elt F) S3x1x2048 .f32) //
      ∀ (E : Set ℕ) (k : FVec F S1x1 .f32 → Prog (TpuEff nD τ sig (Elt F) Λ₀ .tc) PUnit) (Q : PUnit → sProp 𝕄),
        iprop(owns (c : Thread nD τ) arg2 fullShare x2 ∗ owns (c : Thread nD τ) arg4 fullShare x4 ∗ owns (c : Thread nD τ) arg10 fullShare x10 ∗ owns (c : Thread nD τ) arg14 fullShare x14 ∗ owns (c : Thread nD τ) arg15 fullShare x15 ∗ owns (c : Thread nD τ) arg16 fullShare x16 ∗ owns (c : Thread nD τ) arg18 fullShare x18 ∗ owns (c : Thread nD τ) arg19 fullShare x19 ∗ owns (c : Thread nD τ) arg20 fullShare x20
            ∗ (iprop(owns (c : Thread nD τ) arg2 fullShare x2 ∗ owns (c : Thread nD τ) arg4 fullShare x4 ∗ (arg10.view.loc (c : Thread nD τ) ↦[arg10.view.set]{fullShare} arg10.view.writes (Elt F) (harg10.unread x10) L10) ∗ owns (c : Thread nD τ) arg14 fullShare x14 ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16) ∗ owns (c : Thread nD τ) arg18 fullShare x18 ∗ owns (c : Thread nD τ) arg19 fullShare x19 ∗ (arg20.view.loc (c : Thread nD τ) ↦[arg20.view.set]{fullShare} arg20.view.writes (Elt F) (harg20.unread x20) L20)) -∗ wp frame (wpE (defs₀ (F := F)) Variants.none c none) E (k (k0_pay261 v2)) Q))
          ⊢ wp frame (wpE (defs₀ (F := F)) Variants.none c none) E (midProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 k) Q } := by
  refine ⟨?_, ?_, ?_, ?_, fun E k Q => ?run⟩
  case run =>
    unfold midProg
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f2, %hf2, H2⟩, ⟨%f4, %hf4, H4⟩, ⟨%f10, %hf10, H10⟩, ⟨%f14, %hf14, H14⟩, ⟨%f15, %hf15, H15⟩, ⟨%f16, %hf16, H16⟩, ⟨%f18, %hf18, H18⟩, ⟨%f19, %hf19, H19⟩, ⟨%f20, %hf20, H20⟩, Hk⟩
    obtain rfl := harg2.eq_unread hf2; obtain rfl := harg4.eq_unread hf4; obtain rfl := harg10.eq_unread hf10; obtain rfl := harg14.eq_unread hf14; obtain rfl := harg15.eq_unread hf15; obtain rfl := harg16.eq_unread hf16; obtain rfl := harg18.eq_unread hf18; obtain rfl := harg19.eq_unread hf19; obtain rfl := harg20.eq_unread hf20
    sl_exec
    iapply Hk
    isplitl [H2]
    · iexists _; isplitr; · ipureintro; exact harg2.read_unread _
      iexact H2
    isplitl [H4]
    · iexists _; isplitr; · ipureintro; exact harg4.read_unread _
      iexact H4
    isplitl [H10]; · iexact H10
    isplitl [H14]
    · iexists _; isplitr; · ipureintro; exact harg14.read_unread _
      iexact H14
    isplitl [H15]; · iexact H15
    isplitl [H16]; · iexact H16
    isplitl [H18]
    · iexists _; isplitr; · ipureintro; exact harg18.read_unread _
      iexact H18
    isplitl [H19]
    · iexists _; isplitr; · ipureintro; exact harg19.read_unread _
      iexact H19
    iexact H20

end Cert.KernelIdeal.Hand

end
-- ==== Proof.Hand.Cell.lean ====
/- One cell of the kernel's matrix of logits: what the body computes of one pair of rows, and the four sums it runs over the columns. -/
module

public import proofs.«01_k».proof.Proof.Gen.KernelIdeal.Skeleton
public import Idealize.ShloMosaic.Lib.Pointwise

@[expose] public section

noncomputable section

namespace Cert.KernelIdeal.Hand

open Cert.KernelIdeal.Gen
open Idealize.ShloMosaic

/-- The logit (times `log2 e`), its sign turned where the two ids agree. -/
def cA (p : BitVec 1) (l : EReal) : EReal := Scalar.select p (0 - l) l

/-- `2` to minus the size of the logit. -/
def cE (l : EReal) : EReal := FloatOps.exp2 (F := Ideal) (φ := .f32) (0 - FloatOps.absf (F := Ideal) (φ := .f32) l)

/-- The sigmoid of the turned logit, from its sign and `cE`. -/
def cS (a e : EReal) : EReal := if 0 ≤ a then Ideal.div 1 (1 + e) else e * Ideal.div 1 (1 + e)

/-- The gradient of the loss in the logit, before the division by the length. -/
def cG (p : BitVec 1) (l : EReal) : EReal := Scalar.select p (0 - cS (cA p l) (cE l)) (cS (cA p l) (cE l))

/-- Whether two ids agree, as a bit. -/
abbrev cP (a b : BitVec 32) : BitVec 1 := IntOp.cmpi .eq a b

/-- What one point of the grid computes from: the product of the codes, the scaled row factors, the column factors, the ids, and the bias
    times `log2 e`. -/
structure Blk where
  /-- the product of the codes -/
  raw : Fin 256 → Fin 2048 → EReal
  /-- the factor of each row -/
  xs : Fin 256 → EReal
  /-- the factor of each column -/
  ys : Fin 2048 → EReal
  /-- the id of each row -/
  idx : Fin 256 → BitVec 32
  /-- the id of each column -/
  idy : Fin 2048 → BitVec 32
  /-- the bias -/
  b2 : EReal

namespace Blk

variable (B : Blk)

/-- The scaled product of row `r` and column `j`. -/
def td (r : Fin 256) (j : Fin 2048) : EReal := B.raw r j * B.xs r * B.ys j

/-- The logit times `log2 e`. -/
def lg (r : Fin 256) (j : Fin 2048) : EReal := B.td r j + B.b2

/-- Whether the pair is a positive one. -/
def pos (r : Fin 256) (j : Fin 2048) : BitVec 1 := cP (B.idx r) (B.idy j)

/-- The gradient at the pair. -/
def g (r : Fin 256) (j : Fin 2048) : EReal := cG (B.pos r j) (B.lg r j)

/-- Column `l` of the `n`th strip of 128 columns. -/
def jx (n : ℕ) (l : Fin 128) : Fin 2048 := ⟨128 * (n % 16) + l.val, by have := l.isLt; omega⟩

/-- The sum of the positive parts of the turned logits over the first `n` strips, at lane `l`. -/
def aMax (r : Fin 256) (l : Fin 128) : ℕ → EReal
  | 0 => 0
  | n + 1 => aMax r l n + max (cA (B.pos r (jx n l)) (B.lg r (jx n l))) 0

/-- The product of the `1 + cE`, less one, over the first `n` strips, at lane `l`. -/
def aQ (r : Fin 256) (l : Fin 128) : ℕ → EReal
  | 0 => 0
  | n + 1 => aQ r l n * (1 + cE (B.lg r (jx n l))) + cE (B.lg r (jx n l))

/-- The sum of gradient times scaled product over the first `n` strips, at lane `l`. -/
def aDt (r : Fin 256) (l : Fin 128) : ℕ → EReal
  | 0 => 0
  | n + 1 => aDt r l n + B.g r (jx n l) * B.td r (jx n l)

/-- The sum of the gradients over the first `n` strips, at lane `l`. -/
def aDb (r : Fin 256) (l : Fin 128) : ℕ → EReal
  | 0 => 0
  | n + 1 => aDb r l n + B.g r (jx n l)

/-- The loss of a row as the kernel sums it. -/
def loss (r : Fin 256) : EReal :=
  ∑ l : Fin 128, (B.aMax r l 16 * Named.named (F := Ideal) κ "ln2" (φ := .f32) 0x3F317218#32 + Ideal.log1p (B.aQ r l 16))

/-- The row's term of the derivative in the temperature. -/
def dt (r : Fin 256) : EReal := (∑ l : Fin 128, B.aDt r l 16) * Named.named (F := Ideal) κ "ln2_inv_s" (φ := .f32) 0x39B17218#32

/-- The row's term of the derivative in the bias. -/
def db (r : Fin 256) : EReal := (∑ l : Fin 128, B.aDb r l 16) * Ideal.ofBits .f32 0x3A000000#32

end Blk

end Cert.KernelIdeal.Hand

end
-- ==== Proof.Hand.Cols.lean ====
/- What the column loop's vectors hold at an index: the logits, the gradients and the four running sums, strip by strip. -/
module

public import proofs.«01_k».proof.Proof.Hand.Cell

@[expose] public section

noncomputable section

namespace Cert.KernelIdeal.Hand

open Cert.KernelIdeal.Gen
open Idealize.ShloMosaic

/-- What the column loop reads is the block `B`: the codes multiply to `B.raw`, the row vectors are constant along the lanes. -/
structure Holds (B : Blk) (v4 : Ideal .f32) (v31 : IVec S256x128 32) (v35 : FVec Ideal S256x128 .f32) (x2 : Vec Ideal S1x256x768 .fp8e4m3)
    (x4 : Vec Ideal S1x2048x768 .fp8e4m3) (x18 : Vec Ideal S1x2048 .f32) (x19 : Vec Ideal S1x2048 .i32) : Prop where
  raw : ∀ (r : Fin 256) (j : Fin 2048), (∑ d : Fin 768, x2 (ix3 0 r d) * x4 (ix3 0 j d) : EReal) = B.raw r j
  xs : ∀ (r : Fin 256) (l : Fin 128), v35 (ix2 r l) = B.xs r
  ys : ∀ j : Fin 2048, x18 (ix2 0 j) = B.ys j
  idx : ∀ (r : Fin 256) (l : Fin 128), v31 (ix2 r l) = B.idx r
  idy : ∀ j : Fin 2048, x19 (ix2 0 j) = B.idy j
  b2 : v4 = B.b2

variable {B : Blk} {v4 : Ideal .f32} {v31 : IVec S256x128 32} {v35 : FVec Ideal S256x128 .f32} {x2 : Vec Ideal S1x256x768 .fp8e4m3}
  {x4 : Vec Ideal S1x2048x768 .fp8e4m3} {x18 : Vec Ideal S1x2048 .f32} {x19 : Vec Ideal S1x2048 .i32}

/-- The product of the codes over the rows of `y` from `o` on. -/
theorem raw_at (h : Holds B v4 v31 v35 x2 x4 x18 x19) (o : ℕ) (i4 : ∀ a, ![0, o, 0] a + ![1, 256, 768] a ≤ S1x2048x768.size a)
    (r l : Fin 256) (j : Fin 2048) (hj : j.val = o + l.val) :
    k0_pay63 (F := Ideal) x2 (View.ld x4 (Rect.unit ![0, o, 0] ![1, 256, 768] i4)) (ix2 r l) = B.raw r j := by
  rw [← h.raw]
  pointwise [k0_pay63]
  refine Finset.sum_congr rfl fun d _ => ?_
  congr 2
  exact congrArg (ix3 0 · d) (Fin.ext hj.symm)

/-- The scaled product in an even strip. -/
theorem td_even (h : Holds B v4 v31 v35 x2 x4 x18 x19) (o : ℕ) (i4 : ∀ a, ![0, o, 0] a + ![1, 256, 768] a ≤ S1x2048x768.size a)
    (i18 : ∀ a, ![0, o] a + ![1, 128] a ≤ S1x2048.size a) (r : Fin 256) (l : Fin 128) (j : Fin 2048) (hj : j.val = o + l.val) :
    k0_pay64 (F := Ideal) v35 (k0_pay63 x2 (View.ld x4 (Rect.unit ![0, o, 0] ![1, 256, 768] i4)))
      (View.ld x18 (Rect.unit ![0, o] ![1, 128] i18)) (ix2 r l) = B.td r j := by
  pointwise [k0_pay64]
  rw [raw_at h o i4 r _ j hj, h.xs, Blk.td, ← h.ys]
  congr 2
  exact congrArg (ix2 0 ·) (Fin.ext hj.symm)

/-- The scaled product in an odd strip, the second half of the codes' product. -/
theorem td_odd (h : Holds B v4 v31 v35 x2 x4 x18 x19) (o o' : ℕ) (ho : o' = o + 128) (i4 : ∀ a, ![0, o, 0] a + ![1, 256, 768] a ≤ S1x2048x768.size a)
    (i18 : ∀ a, ![0, o'] a + ![1, 128] a ≤ S1x2048.size a) (r : Fin 256) (l : Fin 128) (j : Fin 2048) (hj : j.val = o' + l.val) :
    k0_pay76 (F := Ideal) v35 (k0_pay63 x2 (View.ld x4 (Rect.unit ![0, o, 0] ![1, 256, 768] i4)))
      (View.ld x18 (Rect.unit ![0, o'] ![1, 128] i18)) (ix2 r l) = B.td r j := by
  pointwise [k0_pay76]
  rw [raw_at h o i4 r _ j (by simp only; omega), h.xs, Blk.td, ← h.ys]
  congr 2
  exact congrArg (ix2 0 ·) (Fin.ext hj.symm)

/-- The logit in an even strip. -/
theorem lg_even (h : Holds B v4 v31 v35 x2 x4 x18 x19) (o : ℕ) (i4 : ∀ a, ![0, o, 0] a + ![1, 256, 768] a ≤ S1x2048x768.size a)
    (i18 : ∀ a, ![0, o] a + ![1, 128] a ≤ S1x2048.size a) (r : Fin 256) (l : Fin 128) (j : Fin 2048) (hj : j.val = o + l.val) :
    k0_pay65 (F := Ideal) v4 v35 (k0_pay63 x2 (View.ld x4 (Rect.unit ![0, o, 0] ![1, 256, 768] i4)))
      (View.ld x18 (Rect.unit ![0, o] ![1, 128] i18)) (ix2 r l) = B.lg r j := by
  pointwise [k0_pay65]
  rw [td_even h o i4 i18 r l j hj, h.b2, Blk.lg]

/-- The logit in an odd strip. -/
theorem lg_odd (h : Holds B v4 v31 v35 x2 x4 x18 x19) (o o' : ℕ) (ho : o' = o + 128) (i4 : ∀ a, ![0, o, 0] a + ![1, 256, 768] a ≤ S1x2048x768.size a)
    (i18 : ∀ a, ![0, o'] a + ![1, 128] a ≤ S1x2048.size a) (r : Fin 256) (l : Fin 128) (j : Fin 2048) (hj : j.val = o' + l.val) :
    k0_pay77 (F := Ideal) v4 v35 (k0_pay63 x2 (View.ld x4 (Rect.unit ![0, o, 0] ![1, 256, 768] i4)))
      (View.ld x18 (Rect.unit ![0, o'] ![1, 128] i18)) (ix2 r l) = B.lg r j := by
  pointwise [k0_pay77]
  rw [td_odd h o o' ho i4 i18 r l j hj, h.b2, Blk.lg]

/-- Whether the ids agree, at an index. -/
theorem pos_at (h : Holds B v4 v31 v35 x2 x4 x18 x19) (o : ℕ) (i19 : ∀ a, ![0, o] a + ![1, 128] a ≤ S1x2048.size a)
    (r : Fin 256) (l : Fin 128) (j : Fin 2048) (hj : j.val = o + l.val) :
    k0_pay66 (F := Ideal) v31 (View.ld x19 (Rect.unit ![0, o] ![1, 128] i19)) (ix2 r l) = B.pos r j := by
  pointwise [k0_pay66]
  rw [h.idx, Blk.pos, ← h.idy]
  unfold cP
  congr 2
  exact congrArg (ix2 0 ·) (Fin.ext hj.symm)

/-- A vector that is the logits of strip `o`: what both kinds of strip compute from. -/
def IsLg (B : Blk) (o : ℕ) (L : FVec Ideal S256x128 .f32) : Prop :=
  ∀ (r : Fin 256) (l : Fin 128) (j : Fin 2048), j.val = o + l.val → L (ix2 r l) = B.lg r j

/-- A vector that is the scaled products of strip `o`. -/
def IsTd (B : Blk) (o : ℕ) (L : FVec Ideal S256x128 .f32) : Prop :=
  ∀ (r : Fin 256) (l : Fin 128) (j : Fin 2048), j.val = o + l.val → L (ix2 r l) = B.td r j

/-- The gradients of a strip from its logits. -/
theorem g_of_lg (h : Holds B v4 v31 v35 x2 x4 x18 x19) (o : ℕ) {L : FVec Ideal S256x128 .f32} (hL : IsLg B o L)
    (i19 : ∀ a, ![0, o] a + ![1, 128] a ≤ S1x2048.size a) (r : Fin 256) (l : Fin 128) (j : Fin 2048) (hj : j.val = o + l.val) :
    k0_pay84 (F := Ideal) v31 (View.ld x19 (Rect.unit ![0, o] ![1, 128] i19)) L (ix2 r l) = B.g r j := by
  have hp : k0_pay78 (F := Ideal) v31 (View.ld x19 (Rect.unit ![0, o] ![1, 128] i19)) (ix2 r l) = B.pos r j := pos_at h o i19 r l j hj
  pointwise [k0_pay84, k0_pay79, k0_pay80, k0_pay81]
  rw [hp, hL r l j hj]
  rfl

/-- The four running sums after the strips before `n`. -/
def IsMax (B : Blk) (n : ℕ) (V : FVec Ideal S256x128 .f32) : Prop := ∀ (r : Fin 256) (l : Fin 128), V (ix2 r l) = B.aMax r l n
/-- The running product, less one, after the strips before `n`. -/
def IsQ (B : Blk) (n : ℕ) (V : FVec Ideal S256x128 .f32) : Prop := ∀ (r : Fin 256) (l : Fin 128), V (ix2 r l) = B.aQ r l n
/-- The running sum of gradient times scaled product after the strips before `n`. -/
def IsDt (B : Blk) (n : ℕ) (V : FVec Ideal S256x128 .f32) : Prop := ∀ (r : Fin 256) (l : Fin 128), V (ix2 r l) = B.aDt r l n
/-- The running sum of the gradients after the strips before `n`. -/
def IsDb (B : Blk) (n : ℕ) (V : FVec Ideal S256x128 .f32) : Prop := ∀ (r : Fin 256) (l : Fin 128), V (ix2 r l) = B.aDb r l n

theorem jx_val (n o : ℕ) (hn : n < 16) (ho : o = 128 * n) (l : Fin 128) : (Blk.jx n l).val = o + l.val := by
  show 128 * (n % 16) + l.val = _
  rw [Nat.mod_eq_of_lt hn, ho]

theorem max_step (h : Holds B v4 v31 v35 x2 x4 x18 x19) (n o : ℕ) (hn : n < 16) (ho : o = 128 * n) {L V : FVec Ideal S256x128 .f32}
    (hL : IsLg B o L) (hV : IsMax B n V) (i19 : ∀ a, ![0, o] a + ![1, 128] a ≤ S1x2048.size a) :
    IsMax B (n + 1) (k0_pay82 (F := Ideal) v31 V (View.ld x19 (Rect.unit ![0, o] ![1, 128] i19)) L) := fun r l => by
  have hj := jx_val n o hn ho l
  have hp : k0_pay78 (F := Ideal) v31 (View.ld x19 (Rect.unit ![0, o] ![1, 128] i19)) (ix2 r l) = B.pos r (Blk.jx n l) := pos_at h o i19 r l _ hj
  pointwise [k0_pay82, k0_pay79]
  rw [hp, hL r l _ hj, hV r l]
  rfl

theorem q_step (n o : ℕ) (hn : n < 16) (ho : o = 128 * n) {L V : FVec Ideal S256x128 .f32} (hL : IsLg B o L) (hV : IsQ B n V) :
    IsQ B (n + 1) (k0_pay83 (F := Ideal) V L) := fun r l => by
  have hj := jx_val n o hn ho l
  pointwise [k0_pay83, k0_pay80, k0_pay81]
  rw [hL r l _ hj, hV r l]
  rfl

theorem dt_step (h : Holds B v4 v31 v35 x2 x4 x18 x19) (n o : ℕ) (hn : n < 16) (ho : o = 128 * n) {L T V : FVec Ideal S256x128 .f32}
    (hL : IsLg B o L) (hT : IsTd B o T) (hV : IsDt B n V) (i19 : ∀ a, ![0, o] a + ![1, 128] a ≤ S1x2048.size a) :
    IsDt B (n + 1) (k0_pay85 (F := Ideal) v31 V (View.ld x19 (Rect.unit ![0, o] ![1, 128] i19)) T L) := fun r l => by
  have hj := jx_val n o hn ho l
  pointwise [k0_pay85]
  rw [g_of_lg h o hL i19 r l _ hj, hT r l _ hj, hV r l]
  rfl

theorem db_step (h : Holds B v4 v31 v35 x2 x4 x18 x19) (n o : ℕ) (hn : n < 16) (ho : o = 128 * n) {L V : FVec Ideal S256x128 .f32}
    (hL : IsLg B o L) (hV : IsDb B n V) (i19 : ∀ a, ![0, o] a + ![1, 128] a ≤ S1x2048.size a) :
    IsDb B (n + 1) (k0_pay86 (F := Ideal) v31 V (View.ld x19 (Rect.unit ![0, o] ![1, 128] i19)) L) := fun r l => by
  have hj := jx_val n o hn ho l
  pointwise [k0_pay86]
  rw [g_of_lg h o hL i19 r l _ hj, hV r l]
  rfl

/-- The gradients as the whole buffer. -/
def gArr (B : Blk) : Vec Ideal S256x2048 .bf16 := fun y => B.g (y 0) (y 1)

/-- The piece of the gradients that a strip stores. -/
theorem g_piece (h : Holds B v4 v31 v35 x2 x4 x18 x19) (o : ℕ) {L : FVec Ideal S256x128 .f32} (hL : IsLg B o L)
    (i19 : ∀ a, ![0, o] a + ![1, 128] a ≤ S1x2048.size a) (i16 : ∀ a, ![0, o] a + ![256, 128] a ≤ S256x2048.size a) :
    ∀ x : (Rect.unit (s := S256x2048) ![0, o] ![256, 128] i16).shape.Idx,
      k0_pay87 (F := Ideal) v31 (View.ld x19 (Rect.unit ![0, o] ![1, 128] i19)) L x
        = gArr B ((Rect.unit (s := S256x2048) ![0, o] ![256, 128] i16).emb x) := fun x => by
  obtain ⟨r, l, rfl⟩ : ∃ (r : Fin 256) (l : Fin 128), x = ix2 r l := ⟨x 0, x 1, by idx_ext⟩
  pointwise [k0_pay87]
  have hb : o + l.val < 2048 := by have := i16 1; have := l.isLt; simp at *; omega
  rw [g_of_lg h o hL i19 r l ⟨o + l.val, hb⟩ rfl, gArr]
  congr 1
  · apply Fin.ext; show r.val = 0 + 1 * r.val; omega
  · apply Fin.ext; show o + l.val = o + 1 * l.val; omega

/-- A single strip's vectors, even. -/
theorem isLg_even (h : Holds B v4 v31 v35 x2 x4 x18 x19) (o : ℕ) (i4 : ∀ a, ![0, o, 0] a + ![1, 256, 768] a ≤ S1x2048x768.size a)
    (i18 : ∀ a, ![0, o] a + ![1, 128] a ≤ S1x2048.size a) :
    IsLg B o (k0_pay65 (F := Ideal) v4 v35 (k0_pay63 x2 (View.ld x4 (Rect.unit ![0, o, 0] ![1, 256, 768] i4)))
      (View.ld x18 (Rect.unit ![0, o] ![1, 128] i18))) := fun r l j hj => lg_even h o i4 i18 r l j hj
/-- A single strip's vectors, odd. -/
theorem isLg_odd (h : Holds B v4 v31 v35 x2 x4 x18 x19) (o o' : ℕ) (ho : o' = o + 128) (i4 : ∀ a, ![0, o, 0] a + ![1, 256, 768] a ≤ S1x2048x768.size a)
    (i18 : ∀ a, ![0, o'] a + ![1, 128] a ≤ S1x2048.size a) :
    IsLg B o' (k0_pay77 (F := Ideal) v4 v35 (k0_pay63 x2 (View.ld x4 (Rect.unit ![0, o, 0] ![1, 256, 768] i4)))
      (View.ld x18 (Rect.unit ![0, o'] ![1, 128] i18))) := fun r l j hj => lg_odd h o o' ho i4 i18 r l j hj
/-- The scaled products of an even strip. -/
theorem isTd_even (h : Holds B v4 v31 v35 x2 x4 x18 x19) (o : ℕ) (i4 : ∀ a, ![0, o, 0] a + ![1, 256, 768] a ≤ S1x2048x768.size a)
    (i18 : ∀ a, ![0, o] a + ![1, 128] a ≤ S1x2048.size a) :
    IsTd B o (k0_pay64 (F := Ideal) v35 (k0_pay63 x2 (View.ld x4 (Rect.unit ![0, o, 0] ![1, 256, 768] i4)))
      (View.ld x18 (Rect.unit ![0, o] ![1, 128] i18))) := fun r l j hj => td_even h o i4 i18 r l j hj
/-- The scaled products of an odd strip. -/
theorem isTd_odd (h : Holds B v4 v31 v35 x2 x4 x18 x19) (o o' : ℕ) (ho : o' = o + 128) (i4 : ∀ a, ![0, o, 0] a + ![1, 256, 768] a ≤ S1x2048x768.size a)
    (i18 : ∀ a, ![0, o'] a + ![1, 128] a ≤ S1x2048.size a) :
    IsTd B o' (k0_pay76 (F := Ideal) v35 (k0_pay63 x2 (View.ld x4 (Rect.unit ![0, o, 0] ![1, 256, 768] i4)))
      (View.ld x18 (Rect.unit ![0, o'] ![1, 128] i18))) := fun r l j hj => td_odd h o o' ho i4 i18 r l j hj

/-- The vector whose lane sums are the losses, from the sums before the last strip. -/
theorem loss_lane (h : Holds B v4 v31 v35 x2 x4 x18 x19) {V Q L : FVec Ideal S256x128 .f32} (hL : IsLg B 1920 L) (hV : IsMax B 15 V)
    (hQ : IsQ B 15 Q) (i19 : ∀ a, ![0, 1920] a + ![1, 128] a ≤ S1x2048.size a) (r : Fin 256) (l : Fin 128) :
    k0_pay262 (F := Ideal) v31 V Q (View.ld x19 (Rect.unit ![0, 1920] ![1, 128] i19)) L (ix2 r l)
      = B.aMax r l 16 * Named.named (F := Ideal) κ "ln2" (φ := .f32) 0x3F317218#32 + Ideal.log1p (B.aQ r l 16) := by
  have hj := jx_val 15 1920 (by omega) rfl l
  have hp : k0_pay253 (F := Ideal) v31 (View.ld x19 (Rect.unit ![0, 1920] ![1, 128] i19)) (ix2 r l) = B.pos r (Blk.jx 15 l) := pos_at h 1920 i19 r l _ hj
  pointwise [k0_pay262, k0_pay254, k0_pay255, k0_pay256]
  rw [hp, hL r l _ hj, hV r l, hQ r l]
  rfl

/-- Summing the lanes of each row, the two halves of the rows side by side: the row's sum. -/
theorem lanes_at (f : Fin 256 → Fin 128 → EReal) (r : Fin 256) :
    (if h : r.val < 128 then ∑ l : Fin 128, f ⟨r.val, by omega⟩ l else ∑ l : Fin 128, f ⟨128 + (r.val - 128), by omega⟩ l) = ∑ l : Fin 128, f r l := by
  by_cases h : r.val < 128
  · rw [dif_pos h]
  · rw [dif_neg h]
    have : (⟨128 + (r.val - 128), by omega⟩ : Fin 256) = r := Fin.ext (by show 128 + (r.val - 128) = r.val; omega)
    rw [this]

theorem loss_row (h : Holds B v4 v31 v35 x2 x4 x18 x19) {V Q L : FVec Ideal S256x128 .f32} (hL : IsLg B 1920 L) (hV : IsMax B 15 V)
    (hQ : IsQ B 15 Q) (i19 : ∀ a, ![0, 1920] a + ![1, 128] a ≤ S1x2048.size a) (r : Fin 256) :
    k0_pay265 (F := Ideal) (k0_pay263 v31 V Q (View.ld x19 (Rect.unit ![0, 1920] ![1, 128] i19)) L)
      (k0_pay264 v31 V Q (View.ld x19 (Rect.unit ![0, 1920] ![1, 128] i19)) L) (ix3 0 0 r) = B.loss r := by
  pointwise [k0_pay265, k0_pay263, k0_pay264]
  refine Eq.trans ?_ (lanes_at (fun r l => k0_pay262 (F := Ideal) v31 V Q (View.ld x19 (Rect.unit ![0, 1920] ![1, 128] i19)) L (ix2 r l)) r) |>.trans ?_
  · rfl
  · exact Finset.sum_congr rfl fun l _ => loss_lane h hL hV hQ i19 r l

theorem dt_row {V : FVec Ideal S256x128 .f32} (hV : IsDt B 16 V) (r : Fin 256) : k0_pay266 (F := Ideal) V (ix3 0 0 r) = B.dt r := by
  pointwise [k0_pay266]
  refine congrArg (· * _) ((Eq.trans ?_ (lanes_at (fun r l => V (ix2 r l)) r)).trans ?_)
  · rfl
  · exact Finset.sum_congr rfl fun l _ => hV r l

theorem db_row {V : FVec Ideal S256x128 .f32} (hV : IsDb B 16 V) (r : Fin 256) : k0_pay267 (F := Ideal) V (ix3 0 0 r) = B.db r := by
  pointwise [k0_pay267]
  refine congrArg (· * _) ((Eq.trans ?_ (lanes_at (fun r l => V (ix2 r l)) r)).trans ?_)
  · rfl
  · exact Finset.sum_congr rfl fun l _ => hV r l

/-- The three rows of a block of rows, as the buffer of rows holds them in its columns `256 q` on. -/
def rowsArr (B : Blk) (q : ℕ) : Vec Ideal S3x1x2048 .f32 := fun y =>
  if (y 0).val = 0 then B.loss ⟨((y 2).val - 256 * q) % 256, Nat.mod_lt _ (by omega)⟩
  else if (y 0).val = 1 then B.dt ⟨((y 2).val - 256 * q) % 256, Nat.mod_lt _ (by omega)⟩
  else B.db ⟨((y 2).val - 256 * q) % 256, Nat.mod_lt _ (by omega)⟩

/-- A row stored at columns `256 q` on is a piece of `G` when it agrees with it entry by entry. -/
theorem row_piece (G : Vec Ideal S3x1x2048 .f32) (k q : ℕ) (w : FVec Ideal S1x1x256 .f32)
    (hw : ∀ (r : Fin 256) (y : S3x1x2048.Idx), (y 0).val = k → (y 2).val = 256 * q + r.val → w (ix3 0 0 r) = G y) {off : Fin 3 → ℕ}
    (hoff : off = ![k, 0, 256 * q]) (inb : ∀ a, off a + S1x1x256.size a ≤ S3x1x2048.size a) :
    ∀ x : (Rect.unit (s := S3x1x2048) off S1x1x256.size inb).shape.Idx, w x = G ((Rect.unit (s := S3x1x2048) off S1x1x256.size inb).emb x) := fun x => by
  subst hoff
  obtain ⟨r, rfl⟩ : ∃ r : Fin 256, x = ix3 0 0 r := ⟨x 2, by idx_ext⟩
  refine hw r _ ?_ ?_
  · show k + 1 * 0 = k; omega
  · show 256 * q + 1 * r.val = _; omega

theorem rowsArr_at (B : Blk) (q : ℕ) (y : S3x1x2048.Idx) (r : Fin 256) (h : (y 2).val = 256 * q + r.val) :
    rowsArr B q y = if (y 0).val = 0 then B.loss r else if (y 0).val = 1 then B.dt r else B.db r := by
  have : (⟨((y 2).val - 256 * q) % 256, Nat.mod_lt _ (by omega)⟩ : Fin 256) = r :=
    Fin.ext (by show ((y 2).val - 256 * q) % 256 = r.val; rw [h, Nat.add_sub_cancel_left]; exact Nat.mod_eq_of_lt r.isLt)
  unfold rowsArr
  rw [this]

/-- The block of `dx`. -/
def dxArr (B : Blk) (v2 : FVec Ideal S1x128 .f32) (x14 : Vec Ideal S2048x768 .bf16) : Vec Ideal S1x256x768 .bf16 := fun y =>
  (∑ j : Fin 2048, B.g (y 1) j * x14 (ix2 j (y 2))) * (v2 (ix2 0 0) * Ideal.ofBits .f32 0x3A000000#32)

/-- The accumulator of `dy` with one block's term added. -/
def dytArr (B : Blk) (sx : Fin 256 → EReal) (x2 : Vec Ideal S1x256x768 .fp8e4m3) (x15 : Vec Ideal S768x2048 .f32) : Vec Ideal S768x2048 .f32 := fun y =>
  x15 y + ∑ r : Fin 256, (x2 (ix3 0 r (y 0)) * sx r) * B.g r (y 1)

/-- `dx` of the block: the gradients times the scaled `y`, times the temperature over the length. -/
theorem dx_at (x14 : Vec Ideal S2048x768 .bf16) (v2 : FVec Ideal S1x128 .f32) (r : Fin 256) (d : Fin 768) :
    k0_pay1 (F := Ideal) (k0_pay268 (gArr B) x14) (k0_pay269 (k0_pay261 v2)) (ix3 0 r d)
      = dxArr B v2 x14 (ix3 0 r d) := by
  pointwise [k0_pay1, k0_pay268, k0_pay269, k0_pay261]
  rfl

/-- The scaled codes of the block, transposed. -/
theorem xb_at (sx : Fin 256 → EReal) {v36 : FVec Ideal S256x128 .bf16} {v41 : FVec Ideal S128x256 .bf16} (x2 : Vec Ideal S1x256x768 .fp8e4m3)
    (h36 : ∀ (r : Fin 256) (l : Fin 128), v36 (ix2 r l) = sx r) (h41 : ∀ (d : Fin 128) (r : Fin 256), v41 (ix2 d r) = x2 (ix3 0 r ⟨d.val, by omega⟩) * sx r)
    (i1 : ∀ a, ![0, 0, 128] a + ![1, 256, 128] a ≤ S1x256x768.size a) (i2 : ∀ a, ![0, 0, 256] a + ![1, 256, 128] a ≤ S1x256x768.size a)
    (i3 : ∀ a, ![0, 0, 384] a + ![1, 256, 128] a ≤ S1x256x768.size a) (i4 : ∀ a, ![0, 0, 512] a + ![1, 256, 128] a ≤ S1x256x768.size a)
    (i5 : ∀ a, ![0, 0, 640] a + ![1, 256, 128] a ≤ S1x256x768.size a) (d : Fin 768) (r : Fin 256) :
    k0_pay61 (F := Ideal) v36 v41 (View.ld x2 (Rect.unit ![0, 0, 128] ![1, 256, 128] i1)) (View.ld x2 (Rect.unit ![0, 0, 256] ![1, 256, 128] i2))
      (View.ld x2 (Rect.unit ![0, 0, 384] ![1, 256, 128] i3)) (View.ld x2 (Rect.unit ![0, 0, 512] ![1, 256, 128] i4))
      (View.ld x2 (Rect.unit ![0, 0, 640] ![1, 256, 128] i5)) (ix2 d r) = x2 (ix3 0 r d) * sx r := by
  pointwise [k0_pay61]
  simp only [h36, h41]
  have hd := d.isLt
  split_ifs <;> refine congrArg (· * sx r) (congrArg (fun d => x2 (ix3 0 r d)) (Fin.ext ?_)) <;> simp only <;> omega

/-- One block's term of the accumulator of `dy`. -/
theorem dyt_at (sx : Fin 256 → EReal) {v36 : FVec Ideal S256x128 .bf16} {v41 : FVec Ideal S128x256 .bf16} (x2 : Vec Ideal S1x256x768 .fp8e4m3) (x15 : Vec Ideal S768x2048 .f32)
    (h36 : ∀ (r : Fin 256) (l : Fin 128), v36 (ix2 r l) = sx r) (h41 : ∀ (d : Fin 128) (r : Fin 256), v41 (ix2 d r) = x2 (ix3 0 r ⟨d.val, by omega⟩) * sx r)
    (i1 : ∀ a, ![0, 0, 128] a + ![1, 256, 128] a ≤ S1x256x768.size a) (i2 : ∀ a, ![0, 0, 256] a + ![1, 256, 128] a ≤ S1x256x768.size a)
    (i3 : ∀ a, ![0, 0, 384] a + ![1, 256, 128] a ≤ S1x256x768.size a) (i4 : ∀ a, ![0, 0, 512] a + ![1, 256, 128] a ≤ S1x256x768.size a)
    (i5 : ∀ a, ![0, 0, 640] a + ![1, 256, 128] a ≤ S1x256x768.size a) (d : Fin 768) (j : Fin 2048) :
    k0_pay2 (F := Ideal) (k0_pay61 v36 v41 (View.ld x2 (Rect.unit ![0, 0, 128] ![1, 256, 128] i1)) (View.ld x2 (Rect.unit ![0, 0, 256] ![1, 256, 128] i2))
      (View.ld x2 (Rect.unit ![0, 0, 384] ![1, 256, 128] i3)) (View.ld x2 (Rect.unit ![0, 0, 512] ![1, 256, 128] i4))
      (View.ld x2 (Rect.unit ![0, 0, 640] ![1, 256, 128] i5))) x15 (gArr B) (ix2 d j)
      = dytArr B sx x2 x15 (ix2 d j) := by
  show _ = x15 (ix2 d j) + ∑ r : Fin 256, (x2 (ix3 0 r d) * sx r) * B.g r j
  pointwise [k0_pay2]
  refine congrArg (_ + ·) (Finset.sum_congr rfl fun r _ => ?_)
  rw [xb_at sx x2 h36 h41 i1 i2 i3 i4 i5 d r]
  rfl

end Cert.KernelIdeal.Hand

end
-- ==== Proof.Hand.MidVal.lean ====
/- What the column loop stores: the gradients, the rows of the three sums, the block of `dx`, and the term added to the accumulator of `dy`. -/
module

public import proofs.«01_k».proof.Proof.Hand.Mid
public import proofs.«01_k».proof.Proof.Hand.Cols
public import Idealize.ShloMosaic.Lib.Pipeline.ReadBack
public import Idealize.ShloMosaic.Lib.Pipeline.ValueKit
public import Idealize.ShloMosaic.Lib.WritesUnit
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The running sums start at zero. -/
theorem acc_zero (r : Fin 256) (l : Fin 128) : k0_pay62 (F := Ideal) (ix2 r l) = 0 := by pointwise [k0_pay62]

/-- Where the rows of a point's block lie. -/
theorem off2_eq (i : grid0.Coords) : k0_off2 i = ![0, 0, 256 * (i 1).val] := by
  have h : (i 1).val < 8 := (i 1).isLt
  simp only [k0_off2]
  generalize (i 1).val = q at *
  interval_cases q <;> rfl
theorem off3_eq (i : grid0.Coords) : k0_off3 i = ![1, 0, 256 * (i 1).val] := by
  have h : (i 1).val < 8 := (i 1).isLt
  simp only [k0_off3]
  generalize (i 1).val = q at *
  interval_cases q <;> rfl
theorem off4_eq (i : grid0.Coords) : k0_off4 i = ![2, 0, 256 * (i 1).val] := by
  have h : (i 1).val < 8 := (i 1).isLt
  simp only [k0_off4]
  generalize (i 1).val = q at *
  interval_cases q <;> rfl
theorem off1_eq (i : grid0.Coords) : k0_off1 i = ![0, 256 * (i 1).val] := by
  have h : (i 1).val < 8 := (i 1).isLt
  simp only [k0_off1]
  generalize (i 1).val = q at *
  interval_cases q <;> rfl

variable {B : Blk} (c : Dev nD) (i : grid0.Coords) (arg2 : Memref sig .tc .vmem S1x256x768 .fp8e4m3) (harg2 : arg2.IsWhole) (arg3 : Memref sig .tc .vmem S2x2048 .f32) (harg3 : arg3.IsWhole) (arg4 : Memref sig .tc .vmem S1x2048x768 .fp8e4m3) (harg4 : arg4.IsWhole) (arg5 : Memref sig .tc .vmem S2x2048 .f32) (harg5 : arg5.IsWhole) (arg6 : Memref sig .tc .vmem S2x2048 .i32) (harg6 : arg6.IsWhole) (arg7 : Memref sig .tc .smem S1x1 .f32) (harg7 : arg7.IsWhole) (arg8 : Memref sig .tc .smem S1x1 .f32) (harg8 : arg8.IsWhole) (arg9 : Memref sig .tc .vmem S2x2048 .f32) (harg9 : arg9.IsWhole) (arg10 : Memref sig .tc .vmem S1x256x768 .bf16) (harg10 : arg10.IsWhole) (arg11 : Memref sig .tc .vmem S1x2048x768 .bf16) (harg11 : arg11.IsWhole) (arg12 : Memref sig .tc .vmem S2x2048 .f32) (harg12 : arg12.IsWhole) (arg13 : Memref sig .tc .vmem S2x2048 .f32) (harg13 : arg13.IsWhole) (arg14 : Memref sig .tc .vmem S2048x768 .bf16) (harg14 : arg14.IsWhole) (arg15 : Memref sig .tc .vmem S768x2048 .f32) (harg15 : arg15.IsWhole) (arg16 : Memref sig .tc .vmem S256x2048 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .i32) (harg19 : arg19.IsWhole) (arg20 : Memref sig .tc .vmem S3x1x2048 .f32) (harg20 : arg20.IsWhole) (arg0 : BitVec 32) (arg1 : BitVec 32) (v2 : FVec Ideal S1x128 .f32) (v4 : Ideal .f32) (v9 : BitVec 32) (v31 : IVec S256x128 32) (v35 : FVec Ideal S256x128 .f32) (v36 : FVec Ideal S256x128 .bf16) (v41 : FVec Ideal S128x256 .bf16)
  (x2 : Vec Ideal S1x256x768 .fp8e4m3) (x4 : Vec Ideal S1x2048x768 .fp8e4m3) (x10 : Vec Ideal S1x256x768 .bf16) (x14 : Vec Ideal S2048x768 .bf16) (x15 : Vec Ideal S768x2048 .f32) (x16 : Vec Ideal S256x2048 .bf16) (x18 : Vec Ideal S1x2048 .f32) (x19 : Vec Ideal S1x2048 .i32) (x20 : Vec Ideal S3x1x2048 .f32)

set_option maxHeartbeats 2000000 in
/-- Every piece stored in the gradients' buffer is the gradients there. -/
theorem mid_pieces (h : Holds B v4 v31 v35 x2 x4 x18 x19) :
    View.PiecesOf (Val := Elt Ideal) (gArr B) (mid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20).2.2.1 := by
  frame_open
  simp (disch := decide) only [↓ View.readCov_skip, ↓ View.readCov_cons_toLoadRect, ↓ View.readCov_fill]
  frame_out
  refine ⟨?_, ?_, ?_, ?_, ?_, ?_, ?_, ?_, ?_, ?_, ?_, ?_, ?_, ?_, ?_, ?_, trivial⟩
  · exact g_piece h 1920 (isLg_odd h 1792 1920 rfl (by decide) (by decide)) (by decide) (by decide)
  · exact g_piece h 1792 (isLg_even h 1792 (by decide) (by decide)) (by decide) (by decide)
  · exact g_piece h 1664 (isLg_odd h 1536 1664 rfl (by decide) (by decide)) (by decide) (by decide)
  · exact g_piece h 1536 (isLg_even h 1536 (by decide) (by decide)) (by decide) (by decide)
  · exact g_piece h 1408 (isLg_odd h 1280 1408 rfl (by decide) (by decide)) (by decide) (by decide)
  · exact g_piece h 1280 (isLg_even h 1280 (by decide) (by decide)) (by decide) (by decide)
  · exact g_piece h 1152 (isLg_odd h 1024 1152 rfl (by decide) (by decide)) (by decide) (by decide)
  · exact g_piece h 1024 (isLg_even h 1024 (by decide) (by decide)) (by decide) (by decide)
  · exact g_piece h 896 (isLg_odd h 768 896 rfl (by decide) (by decide)) (by decide) (by decide)
  · exact g_piece h 768 (isLg_even h 768 (by decide) (by decide)) (by decide) (by decide)
  · exact g_piece h 640 (isLg_odd h 512 640 rfl (by decide) (by decide)) (by decide) (by decide)
  · exact g_piece h 512 (isLg_even h 512 (by decide) (by decide)) (by decide) (by decide)
  · exact g_piece h 384 (isLg_odd h 256 384 rfl (by decide) (by decide)) (by decide) (by decide)
  · exact g_piece h 256 (isLg_even h 256 (by decide) (by decide)) (by decide) (by decide)
  · exact g_piece h 128 (isLg_odd h 0 128 rfl (by decide) (by decide)) (by decide) (by decide)
  · exact g_piece h 0 (isLg_even h 0 (by decide) (by decide)) (by decide) (by decide)

/-- The sixteen pieces tile the gradients' buffer. -/
theorem mid_cover (y : S256x2048.Idx) : ∃ p ∈ (mid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20).2.2.1, y ∈ p.1.set := View.cover_of_tiled (s := S256x2048) (Val := Elt Ideal) (e := .bf16) (mid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20).2.2.1 ![256, 128] rfl y

/-- So the whole buffer read back is the gradients. -/
theorem mid_g (h : Holds B v4 v31 v35 x2 x4 x18 x19) : View.canon (Val := Elt Ideal) (mid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20).2.2.1 = gArr B := funext fun y =>
  View.canon_apply_of_pieces (gArr B) _ (mid_pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20 h).mem y (mid_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20 y)

set_option maxHeartbeats 4000000 in
/-- The three pieces stored in the buffer of rows are the block's rows. -/
theorem mid_rows (h : Holds B v4 v31 v35 x2 x4 x18 x19) :
    View.PiecesOf (Val := Elt Ideal) (rowsArr B (i 1).val) (mid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20).2.2.2.1 := by
  frame_open
  simp (disch := decide) only [↓ View.readCov_skip, ↓ View.readCov_cons_toLoadRect, ↓ View.readCov_fill]
  frame_out
  refine ⟨?_, ?_, ?_, trivial⟩
  · refine row_piece _ 2 (i 1).val _ (fun r y h0 h2 => ?_) (off4_eq i) (k0_off4_inb i)
    rw [rowsArr_at B _ y r h2, if_neg (by omega), if_neg (by omega)]
    refine db_row ?_ r
    refine db_step h 15 1920 (by omega) rfl (isLg_odd h 1792 1920 rfl (by decide) (by decide)) ?_ (by decide)
    refine db_step h 14 1792 (by omega) rfl (isLg_even h 1792 (by decide) (by decide)) ?_ (by decide)
    refine db_step h 13 1664 (by omega) rfl (isLg_odd h 1536 1664 rfl (by decide) (by decide)) ?_ (by decide)
    refine db_step h 12 1536 (by omega) rfl (isLg_even h 1536 (by decide) (by decide)) ?_ (by decide)
    refine db_step h 11 1408 (by omega) rfl (isLg_odd h 1280 1408 rfl (by decide) (by decide)) ?_ (by decide)
    refine db_step h 10 1280 (by omega) rfl (isLg_even h 1280 (by decide) (by decide)) ?_ (by decide)
    refine db_step h 9 1152 (by omega) rfl (isLg_odd h 1024 1152 rfl (by decide) (by decide)) ?_ (by decide)
    refine db_step h 8 1024 (by omega) rfl (isLg_even h 1024 (by decide) (by decide)) ?_ (by decide)
    refine db_step h 7 896 (by omega) rfl (isLg_odd h 768 896 rfl (by decide) (by decide)) ?_ (by decide)
    refine db_step h 6 768 (by omega) rfl (isLg_even h 768 (by decide) (by decide)) ?_ (by decide)
    refine db_step h 5 640 (by omega) rfl (isLg_odd h 512 640 rfl (by decide) (by decide)) ?_ (by decide)
    refine db_step h 4 512 (by omega) rfl (isLg_even h 512 (by decide) (by decide)) ?_ (by decide)
    refine db_step h 3 384 (by omega) rfl (isLg_odd h 256 384 rfl (by decide) (by decide)) ?_ (by decide)
    refine db_step h 2 256 (by omega) rfl (isLg_even h 256 (by decide) (by decide)) ?_ (by decide)
    refine db_step h 1 128 (by omega) rfl (isLg_odd h 0 128 rfl (by decide) (by decide)) ?_ (by decide)
    refine db_step h 0 0 (by omega) rfl (isLg_even h 0 (by decide) (by decide)) ?_ (by decide)
    exact fun r l => acc_zero r l
  · refine row_piece _ 1 (i 1).val _ (fun r y h0 h2 => ?_) (off3_eq i) (k0_off3_inb i)
    rw [rowsArr_at B _ y r h2, if_neg (by omega), if_pos (by omega)]
    refine dt_row ?_ r
    refine dt_step h 15 1920 (by omega) rfl (isLg_odd h 1792 1920 rfl (by decide) (by decide)) (isTd_odd h 1792 1920 rfl (by decide) (by decide)) ?_ (by decide)
    refine dt_step h 14 1792 (by omega) rfl (isLg_even h 1792 (by decide) (by decide)) (isTd_even h 1792 (by decide) (by decide)) ?_ (by decide)
    refine dt_step h 13 1664 (by omega) rfl (isLg_odd h 1536 1664 rfl (by decide) (by decide)) (isTd_odd h 1536 1664 rfl (by decide) (by decide)) ?_ (by decide)
    refine dt_step h 12 1536 (by omega) rfl (isLg_even h 1536 (by decide) (by decide)) (isTd_even h 1536 (by decide) (by decide)) ?_ (by decide)
    refine dt_step h 11 1408 (by omega) rfl (isLg_odd h 1280 1408 rfl (by decide) (by decide)) (isTd_odd h 1280 1408 rfl (by decide) (by decide)) ?_ (by decide)
    refine dt_step h 10 1280 (by omega) rfl (isLg_even h 1280 (by decide) (by decide)) (isTd_even h 1280 (by decide) (by decide)) ?_ (by decide)
    refine dt_step h 9 1152 (by omega) rfl (isLg_odd h 1024 1152 rfl (by decide) (by decide)) (isTd_odd h 1024 1152 rfl (by decide) (by decide)) ?_ (by decide)
    refine dt_step h 8 1024 (by omega) rfl (isLg_even h 1024 (by decide) (by decide)) (isTd_even h 1024 (by decide) (by decide)) ?_ (by decide)
    refine dt_step h 7 896 (by omega) rfl (isLg_odd h 768 896 rfl (by decide) (by decide)) (isTd_odd h 768 896 rfl (by decide) (by decide)) ?_ (by decide)
    refine dt_step h 6 768 (by omega) rfl (isLg_even h 768 (by decide) (by decide)) (isTd_even h 768 (by decide) (by decide)) ?_ (by decide)
    refine dt_step h 5 640 (by omega) rfl (isLg_odd h 512 640 rfl (by decide) (by decide)) (isTd_odd h 512 640 rfl (by decide) (by decide)) ?_ (by decide)
    refine dt_step h 4 512 (by omega) rfl (isLg_even h 512 (by decide) (by decide)) (isTd_even h 512 (by decide) (by decide)) ?_ (by decide)
    refine dt_step h 3 384 (by omega) rfl (isLg_odd h 256 384 rfl (by decide) (by decide)) (isTd_odd h 256 384 rfl (by decide) (by decide)) ?_ (by decide)
    refine dt_step h 2 256 (by omega) rfl (isLg_even h 256 (by decide) (by decide)) (isTd_even h 256 (by decide) (by decide)) ?_ (by decide)
    refine dt_step h 1 128 (by omega) rfl (isLg_odd h 0 128 rfl (by decide) (by decide)) (isTd_odd h 0 128 rfl (by decide) (by decide)) ?_ (by decide)
    refine dt_step h 0 0 (by omega) rfl (isLg_even h 0 (by decide) (by decide)) (isTd_even h 0 (by decide) (by decide)) ?_ (by decide)
    exact fun r l => acc_zero r l
  · refine row_piece _ 0 (i 1).val _ (fun r y h0 h2 => ?_) (off2_eq i) (k0_off2_inb i)
    rw [rowsArr_at B _ y r h2, if_pos (by omega)]
    refine loss_row h (isLg_odd h 1792 1920 rfl (by decide) (by decide)) ?_ ?_ (by decide) r
    · refine max_step h 14 1792 (by omega) rfl (isLg_even h 1792 (by decide) (by decide)) ?_ (by decide)
      refine max_step h 13 1664 (by omega) rfl (isLg_odd h 1536 1664 rfl (by decide) (by decide)) ?_ (by decide)
      refine max_step h 12 1536 (by omega) rfl (isLg_even h 1536 (by decide) (by decide)) ?_ (by decide)
      refine max_step h 11 1408 (by omega) rfl (isLg_odd h 1280 1408 rfl (by decide) (by decide)) ?_ (by decide)
      refine max_step h 10 1280 (by omega) rfl (isLg_even h 1280 (by decide) (by decide)) ?_ (by decide)
      refine max_step h 9 1152 (by omega) rfl (isLg_odd h 1024 1152 rfl (by decide) (by decide)) ?_ (by decide)
      refine max_step h 8 1024 (by omega) rfl (isLg_even h 1024 (by decide) (by decide)) ?_ (by decide)
      refine max_step h 7 896 (by omega) rfl (isLg_odd h 768 896 rfl (by decide) (by decide)) ?_ (by decide)
      refine max_step h 6 768 (by omega) rfl (isLg_even h 768 (by decide) (by decide)) ?_ (by decide)
      refine max_step h 5 640 (by omega) rfl (isLg_odd h 512 640 rfl (by decide) (by decide)) ?_ (by decide)
      refine max_step h 4 512 (by omega) rfl (isLg_even h 512 (by decide) (by decide)) ?_ (by decide)
      refine max_step h 3 384 (by omega) rfl (isLg_odd h 256 384 rfl (by decide) (by decide)) ?_ (by decide)
      refine max_step h 2 256 (by omega) rfl (isLg_even h 256 (by decide) (by decide)) ?_ (by decide)
      refine max_step h 1 128 (by omega) rfl (isLg_odd h 0 128 rfl (by decide) (by decide)) ?_ (by decide)
      refine max_step h 0 0 (by omega) rfl (isLg_even h 0 (by decide) (by decide)) ?_ (by decide)
      exact fun r l => acc_zero r l
    · refine q_step 14 1792 (by omega) rfl (isLg_even h 1792 (by decide) (by decide)) ?_
      refine q_step 13 1664 (by omega) rfl (isLg_odd h 1536 1664 rfl (by decide) (by decide)) ?_
      refine q_step 12 1536 (by omega) rfl (isLg_even h 1536 (by decide) (by decide)) ?_
      refine q_step 11 1408 (by omega) rfl (isLg_odd h 1280 1408 rfl (by decide) (by decide)) ?_
      refine q_step 10 1280 (by omega) rfl (isLg_even h 1280 (by decide) (by decide)) ?_
      refine q_step 9 1152 (by omega) rfl (isLg_odd h 1024 1152 rfl (by decide) (by decide)) ?_
      refine q_step 8 1024 (by omega) rfl (isLg_even h 1024 (by decide) (by decide)) ?_
      refine q_step 7 896 (by omega) rfl (isLg_odd h 768 896 rfl (by decide) (by decide)) ?_
      refine q_step 6 768 (by omega) rfl (isLg_even h 768 (by decide) (by decide)) ?_
      refine q_step 5 640 (by omega) rfl (isLg_odd h 512 640 rfl (by decide) (by decide)) ?_
      refine q_step 4 512 (by omega) rfl (isLg_even h 512 (by decide) (by decide)) ?_
      refine q_step 3 384 (by omega) rfl (isLg_odd h 256 384 rfl (by decide) (by decide)) ?_
      refine q_step 2 256 (by omega) rfl (isLg_even h 256 (by decide) (by decide)) ?_
      refine q_step 1 128 (by omega) rfl (isLg_odd h 0 128 rfl (by decide) (by decide)) ?_
      refine q_step 0 0 (by omega) rfl (isLg_even h 0 (by decide) (by decide)) ?_
      exact fun r l => acc_zero r l

/-- A whole rectangle places every index at itself. -/
theorem unit_emb_zero {s : Shape} {off : Fin s.rank → ℕ} (hoff : ∀ a, off a = 0) (inb : ∀ a, off a + s.size a ≤ s.size a) (x : s.Idx) :
    (Rect.unit (s := s) off s.size inb).emb x = x := funext fun a => Fin.ext (by
  show off a + 1 * (x a).val = (x a).val
  rw [hoff, Nat.zero_add, Nat.one_mul])

/-- Which places one row of a block holds. -/
theorem mem_row (k q : ℕ) {off : Fin 3 → ℕ} (hoff : off = ![k, 0, 256 * q]) (inb : ∀ a, off a + S1x1x256.size a ≤ S3x1x2048.size a) (y : S3x1x2048.Idx) :
    y ∈ (Rect.unit (s := S3x1x2048) off S1x1x256.size inb).set ↔ (y 0).val = k ∧ 256 * q ≤ (y 2).val ∧ (y 2).val < 256 * q + 256 := by
  subst hoff
  rw [Rect.mem_set_unit]
  have h1 : (y 1).val < 1 := (y 1).isLt
  constructor
  · intro h
    have a0 := h 0; have a2 := h 2
    change k ≤ (y 0).val ∧ (y 0).val < k + 1 at a0
    change 256 * q ≤ (y 2).val ∧ (y 2).val < 256 * q + 256 at a2
    omega
  · rintro ⟨h0, h2, h3⟩ a
    fin_cases a
    · show k ≤ (y 0).val ∧ (y 0).val < k + 1; omega
    · show 0 ≤ (y 1).val ∧ (y 1).val < 0 + 1; omega
    · exact ⟨h2, h3⟩

/-- A buffer that pieces of one array tile, read back whole, is that array. -/
theorem whole_read (v : View sig .tc .vmem S256x2048 .bf16) (G : Vec Ideal S256x2048 .bf16) (L : List (View.Piece (Elt Ideal) S256x2048 .bf16))
    (hp : View.PiecesOf (Val := Elt Ideal) G L) (hc : ∀ y, ∃ p ∈ L, y ∈ p.1.set) (inb : ∀ a, ![0, 0] a + S256x2048.size a ≤ S256x2048.size a) :
    v.readCov L (Rect.unit (s := S256x2048) ![0, 0] S256x2048.size inb).toLoadRect = G := by
  rw [View.readCov_eq_canon']
  funext j
  have hj : (Rect.unit (s := S256x2048) ![0, 0] S256x2048.size inb).toLoadRect.idx j = j := by
    funext a
    fin_cases a
    · apply Fin.ext; show 0 + 1 * (j 0).val = (j 0).val; omega
    · apply Fin.ext; show 0 + 1 * (j 1).val = (j 1).val; omega
  rw [View.canon_apply_of_pieces G L hp.mem _ (hc _), hj]

set_option maxHeartbeats 4000000 in
/-- The pieces stored in the block of `dx` and in the accumulator of `dy`. -/
theorem mid_prods (h : Holds B v4 v31 v35 x2 x4 x18 x19) (sx : Fin 256 → EReal)
    (h36 : ∀ (r : Fin 256) (l : Fin 128), v36 (ix2 r l) = sx r) (h41 : ∀ (d : Fin 128) (r : Fin 256), v41 (ix2 d r) = x2 (ix3 0 r ⟨d.val, by omega⟩) * sx r) :
    View.PiecesOf (Val := Elt Ideal) (dxArr B v2 x14) (mid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20).1 ∧ View.PiecesOf (Val := Elt Ideal) (dytArr B sx x2 x15) (mid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20).2.1 := by
  frame_open
  simp (disch := decide) only [↓ View.readCov_skip, ↓ View.readCov_cons_toLoadRect, ↓ View.readCov_fill]
  frame_out
  rw [whole_read arg16.view (gArr B) _ ?_ (View.cover_of_tiled (s := S256x2048) (Val := Elt Ideal) (e := .bf16) _ ![256, 128] rfl) _]
  · refine ⟨⟨fun x => ?_, trivial⟩, ⟨fun x => ?_, trivial⟩⟩
    · obtain ⟨r, d, rfl⟩ : ∃ (r : Fin 256) (d : Fin 768), x = ix3 0 r d := ⟨x 1, x 2, by idx_ext⟩
      have he : (Rect.unit (s := S1x256x768) ![0, 0, 0] ![1, 256, 768] inb_S1x256x768_S1x256x768_0_0_0).emb (ix3 0 r d) = ix3 0 r d := unit_emb_zero (s := S1x256x768) (off := ![0, 0, 0]) (fun a => by fin_cases a <;> rfl) inb_S1x256x768_S1x256x768_0_0_0 (ix3 0 r d)
      exact (dx_at x14 v2 r d).trans (congrArg (dxArr B v2 x14) he.symm)
    · obtain ⟨d, j, rfl⟩ : ∃ (d : Fin 768) (j : Fin 2048), x = ix2 d j := ⟨x 0, x 1, by idx_ext⟩
      have he : (Rect.unit (s := S768x2048) ![0, 0] ![768, 2048] inb_S768x2048_S768x2048_0_0).emb (ix2 d j) = ix2 d j := unit_emb_zero (s := S768x2048) (off := ![0, 0]) (fun a => by fin_cases a <;> rfl) inb_S768x2048_S768x2048_0_0 (ix2 d j)
      exact (dyt_at sx x2 x15 h36 h41 (by decide) (by decide) (by decide) (by decide) (by decide) d j).trans (congrArg (dytArr B sx x2 x15) he.symm)
  refine ⟨?_, ?_, ?_, ?_, ?_, ?_, ?_, ?_, ?_, ?_, ?_, ?_, ?_, ?_, ?_, ?_, trivial⟩
  · exact g_piece h 1920 (isLg_odd h 1792 1920 rfl (by decide) (by decide)) (by decide) (by decide)
  · exact g_piece h 1792 (isLg_even h 1792 (by decide) (by decide)) (by decide) (by decide)
  · exact g_piece h 1664 (isLg_odd h 1536 1664 rfl (by decide) (by decide)) (by decide) (by decide)
  · exact g_piece h 1536 (isLg_even h 1536 (by decide) (by decide)) (by decide) (by decide)
  · exact g_piece h 1408 (isLg_odd h 1280 1408 rfl (by decide) (by decide)) (by decide) (by decide)
  · exact g_piece h 1280 (isLg_even h 1280 (by decide) (by decide)) (by decide) (by decide)
  · exact g_piece h 1152 (isLg_odd h 1024 1152 rfl (by decide) (by decide)) (by decide) (by decide)
  · exact g_piece h 1024 (isLg_even h 1024 (by decide) (by decide)) (by decide) (by decide)
  · exact g_piece h 896 (isLg_odd h 768 896 rfl (by decide) (by decide)) (by decide) (by decide)
  · exact g_piece h 768 (isLg_even h 768 (by decide) (by decide)) (by decide) (by decide)
  · exact g_piece h 640 (isLg_odd h 512 640 rfl (by decide) (by decide)) (by decide) (by decide)
  · exact g_piece h 512 (isLg_even h 512 (by decide) (by decide)) (by decide) (by decide)
  · exact g_piece h 384 (isLg_odd h 256 384 rfl (by decide) (by decide)) (by decide) (by decide)
  · exact g_piece h 256 (isLg_even h 256 (by decide) (by decide)) (by decide) (by decide)
  · exact g_piece h 128 (isLg_odd h 0 128 rfl (by decide) (by decide)) (by decide) (by decide)
  · exact g_piece h 0 (isLg_even h 0 (by decide) (by decide)) (by decide) (by decide)

/-- The rows' pieces hold every place of the block's columns, -/
theorem mid_rows_mem (y : S3x1x2048.Idx) (hy : 256 * (i 1).val ≤ (y 2).val ∧ (y 2).val < 256 * (i 1).val + 256) :
    ∃ p ∈ (mid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20).2.2.2.1, y ∈ p.1.set := by
  frame_open
  have h0 : (y 0).val < 3 := (y 0).isLt
  rcases (by omega : (y 0).val = 2 ∨ (y 0).val = 1 ∨ (y 0).val = 0) with h | h | h
  · exact ⟨_, List.mem_cons_self, (mem_row 2 _ (off4_eq i) (k0_off4_inb i) y).mpr ⟨h, hy⟩⟩
  · exact ⟨_, List.mem_cons_of_mem _ List.mem_cons_self, (mem_row 1 _ (off3_eq i) (k0_off3_inb i) y).mpr ⟨h, hy⟩⟩
  · exact ⟨_, List.mem_cons_of_mem _ (List.mem_cons_of_mem _ List.mem_cons_self), (mem_row 0 _ (off2_eq i) (k0_off2_inb i) y).mpr ⟨h, hy⟩⟩

/-- and no other. -/
theorem mid_rows_not_mem (y : S3x1x2048.Idx) (hy : ¬(256 * (i 1).val ≤ (y 2).val ∧ (y 2).val < 256 * (i 1).val + 256)) :
    ∀ p ∈ (mid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20).2.2.2.1, y ∉ p.1.set := by
  frame_open
  intro p hp
  simp only [List.mem_cons, List.not_mem_nil, or_false] at hp
  rcases hp with rfl | rfl | rfl
  · exact fun h => hy ((mem_row 2 _ (off4_eq i) (k0_off4_inb i) y).mp h).2
  · exact fun h => hy ((mem_row 1 _ (off3_eq i) (k0_off3_inb i) y).mp h).2
  · exact fun h => hy ((mem_row 0 _ (off2_eq i) (k0_off2_inb i) y).mp h).2

/-- The whole pieces' coverage. -/
theorem mid_dx_cover (y : S1x256x768.Idx) : ∃ p ∈ (mid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20).1, y ∈ p.1.set := View.cover_of_tiled (s := S1x256x768) (Val := Elt Ideal) (e := .bf16) (mid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20).1 ![1, 256, 768] rfl y
theorem mid_dyt_cover (y : S768x2048.Idx) : ∃ p ∈ (mid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20).2.1, y ∈ p.1.set := View.cover_of_tiled (s := S768x2048) (Val := Elt Ideal) (e := .f32) (mid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20).2.1 ![768, 2048] rfl y

/-- The rows with those of block `q` put in. -/
def rowsIn (B : Blk) (q : ℕ) (x20 : Vec Ideal S3x1x2048 .f32) : Vec Ideal S3x1x2048 .f32 := fun y =>
  if 256 * q ≤ (y 2).val ∧ (y 2).val < 256 * q + 256 then rowsArr B q y else x20 y

/-- The run of the column loop, its pieces any that are known to hold what is named. -/
theorem mid_wp_aux (d10 : Vec Ideal S1x256x768 .bf16) (d15 : Vec Ideal S768x2048 .f32) (L10 : List (View.Piece (Elt Ideal) S1x256x768 .bf16)) (L15 : List (View.Piece (Elt Ideal) S768x2048 .f32))
    (L16 : List (View.Piece (Elt Ideal) S256x2048 .bf16)) (L20 : List (View.Piece (Elt Ideal) S3x1x2048 .f32)) (P : sProp 𝕄) (Q : sProp 𝕄)
    (p10 : View.PiecesOf (Val := Elt Ideal) d10 L10) (p15 : View.PiecesOf (Val := Elt Ideal) d15 L15)
    (c10 : ∀ y, ∃ p ∈ L10, y ∈ p.1.set) (c15 : ∀ y, ∃ p ∈ L15, y ∈ p.1.set) (p16 : View.PiecesOf (Val := Elt Ideal) (gArr B) L16) (c16 : ∀ y, ∃ p ∈ L16, y ∈ p.1.set)
    (p20 : View.PiecesOf (Val := Elt Ideal) (rowsArr B (i 1).val) L20)
    (m20 : ∀ y : S3x1x2048.Idx, (256 * (i 1).val ≤ (y 2).val ∧ (y 2).val < 256 * (i 1).val + 256) → ∃ p ∈ L20, y ∈ p.1.set)
    (n20 : ∀ y : S3x1x2048.Idx, ¬(256 * (i 1).val ≤ (y 2).val ∧ (y 2).val < 256 * (i 1).val + 256) → ∀ p ∈ L20, y ∉ p.1.set)
    (run : iprop(owns (c : Thread nD τ) arg2 fullShare x2 ∗ owns (c : Thread nD τ) arg4 fullShare x4 ∗ owns (c : Thread nD τ) arg10 fullShare x10 ∗ owns (c : Thread nD τ) arg14 fullShare x14 ∗ owns (c : Thread nD τ) arg15 fullShare x15 ∗ owns (c : Thread nD τ) arg16 fullShare x16 ∗ owns (c : Thread nD τ) arg18 fullShare x18 ∗ owns (c : Thread nD τ) arg19 fullShare x19 ∗ owns (c : Thread nD τ) arg20 fullShare x20 ∗ (iprop(owns (c : Thread nD τ) arg2 fullShare x2 ∗ owns (c : Thread nD τ) arg4 fullShare x4 ∗ (arg10.view.loc (c : Thread nD τ) ↦[arg10.view.set]{fullShare} arg10.view.writes (Elt Ideal) (harg10.unread x10) L10) ∗ owns (c : Thread nD τ) arg14 fullShare x14 ∗ (arg15.view.loc (c : Thread nD τ) ↦[arg15.view.set]{fullShare} arg15.view.writes (Elt Ideal) (harg15.unread x15) L15) ∗ (arg16.view.loc (c : Thread nD τ) ↦[arg16.view.set]{fullShare} arg16.view.writes (Elt Ideal) (harg16.unread x16) L16) ∗ owns (c : Thread nD τ) arg18 fullShare x18 ∗ owns (c : Thread nD τ) arg19 fullShare x19 ∗ (arg20.view.loc (c : Thread nD τ) ↦[arg20.view.set]{fullShare} arg20.view.writes (Elt Ideal) (harg20.unread x20) L20)) -∗ Q)) ⊢ P) :
    iprop(owns (c : Thread nD τ) arg2 fullShare x2 ∗ owns (c : Thread nD τ) arg4 fullShare x4 ∗ owns (c : Thread nD τ) arg10 fullShare x10 ∗ owns (c : Thread nD τ) arg14 fullShare x14 ∗ owns (c : Thread nD τ) arg15 fullShare x15 ∗ owns (c : Thread nD τ) arg16 fullShare x16 ∗ owns (c : Thread nD τ) arg18 fullShare x18 ∗ owns (c : Thread nD τ) arg19 fullShare x19 ∗ owns (c : Thread nD τ) arg20 fullShare x20 ∗ (iprop(owns (c : Thread nD τ) arg2 fullShare x2 ∗ owns (c : Thread nD τ) arg4 fullShare x4 ∗ owns (c : Thread nD τ) arg10 fullShare d10 ∗ owns (c : Thread nD τ) arg14 fullShare x14 ∗ owns (c : Thread nD τ) arg15 fullShare d15 ∗ owns (c : Thread nD τ) arg16 fullShare (gArr B) ∗ owns (c : Thread nD τ) arg18 fullShare x18 ∗ owns (c : Thread nD τ) arg19 fullShare x19 ∗ owns (c : Thread nD τ) arg20 fullShare (rowsIn B (i 1).val x20)) -∗ Q)) ⊢ P := by
  refine BIBase.Entails.trans ?_ run
  iintro ⟨H2, H4, H10, H14, H15, H16, H18, H19, H20, Hk⟩
  isplitl [H2]; · iexact H2
  isplitl [H4]; · iexact H4
  isplitl [H10]; · iexact H10
  isplitl [H14]; · iexact H14
  isplitl [H15]; · iexact H15
  isplitl [H16]; · iexact H16
  isplitl [H18]; · iexact H18
  isplitl [H19]; · iexact H19
  isplitl [H20]; · iexact H20
  iintro ⟨H2, H4, H10, H14, H15, H16, H18, H19, H20⟩
  iapply Hk
  isplitl [H2]; · iexact H2
  isplitl [H4]; · iexact H4
  isplitl [H10]
  · unfold owns; iexists (arg10.view.writes (Elt Ideal) (harg10.unread x10) L10); isplitr
    · ipureintro
      exact funext fun y => View.read_writes_apply_of_pieces _ _ _ _ p10.mem y (c10 y)
    · iexact H10
  isplitl [H14]; · iexact H14
  isplitl [H15]
  · unfold owns; iexists (arg15.view.writes (Elt Ideal) (harg15.unread x15) L15); isplitr
    · ipureintro
      exact funext fun y => View.read_writes_apply_of_pieces _ _ _ _ p15.mem y (c15 y)
    · iexact H15
  isplitl [H16]
  · unfold owns; iexists (arg16.view.writes (Elt Ideal) (harg16.unread x16) L16); isplitr
    · ipureintro
      exact funext fun y => View.read_writes_apply_of_pieces _ _ _ _ p16.mem y (c16 y)
    · iexact H16
  isplitl [H18]; · iexact H18
  isplitl [H19]; · iexact H19
  unfold owns; iexists (arg20.view.writes (Elt Ideal) (harg20.unread x20) L20); isplitr
  · ipureintro
    funext y
    unfold rowsIn
    split
    · rename_i hy
      exact View.read_writes_apply_of_pieces _ _ _ _ p20.mem y (m20 y hy)
    · rename_i hy
      rw [View.read_writes_apply_of_forall_not_mem _ _ y _ (n20 y hy), harg20.read_unread]
  · iexact H20

/-- The column loop, with what each buffer holds afterwards. -/
theorem mid_wp (h : Holds B v4 v31 v35 x2 x4 x18 x19) (sx : Fin 256 → EReal)
    (h36 : ∀ (r : Fin 256) (l : Fin 128), v36 (ix2 r l) = sx r) (h41 : ∀ (d : Fin 128) (r : Fin 256), v41 (ix2 d r) = x2 (ix3 0 r ⟨d.val, by omega⟩) * sx r)
    (E : Set ℕ) (k : FVec Ideal S1x1 .f32 → Prog (TpuEff nD τ sig (Elt Ideal) Λ₀ .tc) PUnit) (Q : PUnit → sProp 𝕄) :
    iprop(owns (c : Thread nD τ) arg2 fullShare x2 ∗ owns (c : Thread nD τ) arg4 fullShare x4 ∗ owns (c : Thread nD τ) arg10 fullShare x10 ∗ owns (c : Thread nD τ) arg14 fullShare x14 ∗ owns (c : Thread nD τ) arg15 fullShare x15 ∗ owns (c : Thread nD τ) arg16 fullShare x16 ∗ owns (c : Thread nD τ) arg18 fullShare x18 ∗ owns (c : Thread nD τ) arg19 fullShare x19 ∗ owns (c : Thread nD τ) arg20 fullShare x20
        ∗ (iprop(owns (c : Thread nD τ) arg2 fullShare x2 ∗ owns (c : Thread nD τ) arg4 fullShare x4 ∗ owns (c : Thread nD τ) arg10 fullShare (dxArr B v2 x14)
          ∗ owns (c : Thread nD τ) arg14 fullShare x14 ∗ owns (c : Thread nD τ) arg15 fullShare (dytArr B sx x2 x15) ∗ owns (c : Thread nD τ) arg16 fullShare (gArr B)
          ∗ owns (c : Thread nD τ) arg18 fullShare x18 ∗ owns (c : Thread nD τ) arg19 fullShare x19 ∗ owns (c : Thread nD τ) arg20 fullShare (rowsIn B (i 1).val x20))
          -∗ wp frame (wpE (defs₀ (F := Ideal)) Variants.none c none) E (k (k0_pay261 v2)) Q))
      ⊢ wp frame (wpE (defs₀ (F := Ideal)) Variants.none c none) E (midProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 k) Q :=
  mid_wp_aux c i arg2 arg4 arg10 harg10 arg14 arg15 harg15 arg16 harg16 arg18 arg19 arg20 harg20 x2 x4 x10 x14 x15 x16 x18 x19 x20 (dxArr B v2 x14) (dytArr B sx x2 x15) (mid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20).1 (mid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20).2.1 (mid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20).2.2.1 (mid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20).2.2.2.1 _ _
    (mid_prods c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20 h sx h36 h41).1 (mid_prods c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20 h sx h36 h41).2 (mid_dx_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20) (mid_dyt_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20)
    (mid_pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20 h) (mid_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20) (mid_rows c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20 h) (mid_rows_mem c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20) (mid_rows_not_mem c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20) ((mid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 arg1 v2 v4 v9 v31 v35 v36 v41 x2 x4 x10 x14 x15 x16 x18 x19 x20).2.2.2.2 E k Q)

end Cert.KernelIdeal.Hand

end
-- ==== Proof.Hand.PreVal.lean ====
/- What the first stretch of the body computes and stores: the scales and ids of the batch, the scaled `y`, the cleared accumulator, and the values the column loop starts from. -/
module

public import proofs.«01_k».proof.Proof.Hand.MidVal

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- Row `256 q + r` of the sequence. -/
def jr (q : ℕ) (r : Fin 256) : Fin 2048 := ⟨256 * (q % 8) + r.val, by have := r.isLt; omega⟩

/-- One row of a two-row array, as an array of one row. -/
def rowOf {e : EltTy} (x : Vec Ideal S2x2048 e) (k : Fin 2) : Vec Ideal S1x2048 e := fun y => x (ix2 k (y 1))

/-- The scaled codes of a batch. -/
def ybArr (x4 : Vec Ideal S1x2048x768 .fp8e4m3) (w : Vec Ideal S1x2048 .f32) : Vec Ideal S2048x768 .bf16 := fun y => x4 (ix3 0 (y 0) (y 1)) * w (ix2 0 (y 0))

/-- The values the column loop starts from, by what they hold: `tp` and `b` the two scalars, `w17` and `w19` the scales and ids of the batch,
    `q` the number of the block of rows. -/
structure VOk (q : ℕ) (x2 : Vec Ideal S1x256x768 .fp8e4m3) (w17 : Vec Ideal S1x2048 .f32) (w19 : Vec Ideal S1x2048 .i32) (tp b : EReal) (V : (Σ' (arg0 : BitVec 32) (arg1 : BitVec 32) (v2 : FVec Ideal S1x128 .f32) (v4 : Ideal .f32) (v9 : BitVec 32) (v31 : IVec S256x128 32) (v35 : FVec Ideal S256x128 .f32) (v36 : FVec Ideal S256x128 .bf16), FVec Ideal S128x256 .bf16)) : Prop where
  t : V.2.2.1 (ix2 0 0) = Ideal.exp tp
  b2 : V.2.2.2.1 = b * Named.named (F := Ideal) κ "log2e" (φ := .f32) 0x3FB8AA3B#32
  idx : ∀ (r : Fin 256) (l : Fin 128), V.2.2.2.2.2.1 (ix2 r l) = w19 (ix2 0 (jr q r))
  xs : ∀ (r : Fin 256) (l : Fin 128), V.2.2.2.2.2.2.1 (ix2 r l) = w17 (ix2 0 (jr q r)) * (Ideal.exp tp * Named.named (F := Ideal) κ "log2e" (φ := .f32) 0x3FB8AA3B#32)
  sx : ∀ (r : Fin 256) (l : Fin 128), V.2.2.2.2.2.2.2.1 (ix2 r l) = w17 (ix2 0 (jr q r))
  xb : ∀ (d : Fin 128) (r : Fin 256), V.2.2.2.2.2.2.2.2 (ix2 d r) = x2 (ix3 0 r ⟨d.val, by omega⟩) * w17 (ix2 0 (jr q r))

/-- An entry of a row loaded from the block's columns. -/
theorem ld_row {e : EltTy} (i : grid0.Coords) (w : Vec Ideal S1x2048 e) (inb : ∀ a, k0_off1 i a + ![1, 256] a ≤ S1x2048.size a) (a : Fin 1) (r : Fin 256) :
    View.ld (Val := Elt Ideal) w (Rect.unit (s := S1x2048) (k0_off1 i) ![1, 256] inb) (ix2 a r) = w (ix2 0 (jr (i 1).val r)) := by
  have h8 : (i 1).val < 8 := (i 1).isLt
  refine congrArg w (funext fun a' => ?_)
  have ha : a.val < 1 := a.isLt
  fin_cases a'
  · apply Fin.ext
    show k0_off1 i 0 + 1 * a.val = 0
    rw [off1_eq]; show 0 + 1 * a.val = 0; omega
  · apply Fin.ext
    show k0_off1 i 1 + 1 * r.val = 256 * ((i 1).val % 8) + r.val
    rw [off1_eq]; show 256 * (i 1).val + 1 * r.val = _; omega

/-- The two halves of a block of rows side by side are the block of rows. -/
theorem halves_at {α : Type} (f : Fin 256 → α) (r : Fin 256) : (if h : r.val < 128 then f ⟨r.val, by omega⟩ else f ⟨128 + (r.val - 128), by omega⟩) = f r := by
  by_cases h : r.val < 128
  · rw [dif_pos h]
  · rw [dif_neg h]
    exact congrArg f (Fin.ext (by show 128 + (r.val - 128) = r.val; omega))

theorem scale_at (v11 : Vec Ideal S1x256 .f32) (r : Fin 256) (l : Fin 128) : k0_pay56 (F := Ideal) v11 (ix2 r l) = v11 (ix2 0 r) := by
  pointwise [k0_pay56]
  exact halves_at (fun r => v11 (ix2 0 r)) r

theorem ids_at (v22 : Vec Ideal S1x256 .i32) (r : Fin 256) (l : Fin 128) : k0_pay57 (F := Ideal) v22 (ix2 r l) = v22 (ix2 0 r) := by
  pointwise [k0_pay57]
  exact halves_at (fun r => v22 (ix2 0 r)) r

/-- The values the column loop starts from, computed from the two scalars and two rows. -/
theorem vok (i : grid0.Coords) (x2 : Vec Ideal S1x256x768 .fp8e4m3) (w17 : Vec Ideal S1x2048 .f32) (w19 : Vec Ideal S1x2048 .i32) (s7 s8 : EReal)
    (inb : ∀ a, k0_off1 i a + ![1, 256] a ≤ S1x2048.size a) (i2 : ∀ a, ![0, 0, 0] a + ![1, 256, 128] a ≤ S1x256x768.size a) (a0 a1 a9 : BitVec 32) :
    VOk (i 1).val x2 w17 w19 s7 s8 ⟨a0, a1, k0_pay50 (F := Ideal) s7, k0_pay51 (F := Ideal) s8, a9,
      k0_pay57 (F := Ideal) (View.ld (Val := Elt Ideal) w19 (Rect.unit (s := S1x2048) (k0_off1 i) ![1, 256] inb)),
      k0_pay58 (F := Ideal) s7 (View.ld (Val := Elt Ideal) w17 (Rect.unit (s := S1x2048) (k0_off1 i) ![1, 256] inb)),
      k0_pay59 (F := Ideal) (View.ld (Val := Elt Ideal) w17 (Rect.unit (s := S1x2048) (k0_off1 i) ![1, 256] inb)),
      k0_pay60 (F := Ideal) (View.ld (Val := Elt Ideal) w17 (Rect.unit (s := S1x2048) (k0_off1 i) ![1, 256] inb)) (View.ld (Val := Elt Ideal) x2 (Rect.unit (s := S1x256x768) ![0, 0, 0] ![1, 256, 128] i2))⟩ where
  t := by show k0_pay50 (F := Ideal) s7 (ix2 0 0) = _; pointwise [k0_pay50]
  b2 := by show k0_pay51 (F := Ideal) s8 = _; pointwise [k0_pay51]
  idx r l := by
    show k0_pay57 (F := Ideal) _ (ix2 r l) = _
    rw [ids_at, ld_row]
  xs r l := by
    show k0_pay58 (F := Ideal) _ _ (ix2 r l) = _
    pointwise [k0_pay58, k0_pay50]
    rw [scale_at, ld_row]
  sx r l := by
    show k0_pay59 (F := Ideal) _ (ix2 r l) = _
    pointwise [k0_pay59]
    rw [scale_at, ld_row]
  xb d r := by
    show k0_pay60 (F := Ideal) _ _ (ix2 d r) = _
    pointwise [k0_pay60, k0_pay59]
    rw [scale_at, ld_row]

/-- The scales of a batch as a column, constant along the lanes, as the kernel lays them out. -/
def colOf (w : Vec Ideal S1x2048 .f32) : FVec Ideal S2048x128 .bf16 :=
  truncf .bf16 (concatenate S2048x128 0 [⟨S128x128, transpose S128x128 [1, 0] (broadcastTo S128x128 (shapeCast S1x128 (extractStridedSlice S1x128 ![0, 0] w slices_S1x2048_o0_0_S1x128) shapeCasts_S1x128_S1x128) broadcasts_S1x128_S128x128) transposes_S128x128_p1_0_S128x128⟩,
      ⟨S128x128, transpose S128x128 [1, 0] (broadcastTo S128x128 (shapeCast S1x128 (extractStridedSlice S1x128 ![0, 128] w slices_S1x2048_o0_128_S1x128) shapeCasts_S1x128_S1x128) broadcasts_S1x128_S128x128) transposes_S128x128_p1_0_S128x128⟩,
      ⟨S128x128, transpose S128x128 [1, 0] (broadcastTo S128x128 (shapeCast S1x128 (extractStridedSlice S1x128 ![0, 256] w slices_S1x2048_o0_256_S1x128) shapeCasts_S1x128_S1x128) broadcasts_S1x128_S128x128) transposes_S128x128_p1_0_S128x128⟩,
      ⟨S128x128, transpose S128x128 [1, 0] (broadcastTo S128x128 (shapeCast S1x128 (extractStridedSlice S1x128 ![0, 384] w slices_S1x2048_o0_384_S1x128) shapeCasts_S1x128_S1x128) broadcasts_S1x128_S128x128) transposes_S128x128_p1_0_S128x128⟩,
      ⟨S128x128, transpose S128x128 [1, 0] (broadcastTo S128x128 (shapeCast S1x128 (extractStridedSlice S1x128 ![0, 512] w slices_S1x2048_o0_512_S1x128) shapeCasts_S1x128_S1x128) broadcasts_S1x128_S128x128) transposes_S128x128_p1_0_S128x128⟩,
      ⟨S128x128, transpose S128x128 [1, 0] (broadcastTo S128x128 (shapeCast S1x128 (extractStridedSlice S1x128 ![0, 640] w slices_S1x2048_o0_640_S1x128) shapeCasts_S1x128_S1x128) broadcasts_S1x128_S128x128) transposes_S128x128_p1_0_S128x128⟩,
      ⟨S128x128, transpose S128x128 [1, 0] (broadcastTo S128x128 (shapeCast S1x128 (extractStridedSlice S1x128 ![0, 768] w slices_S1x2048_o0_768_S1x128) shapeCasts_S1x128_S1x128) broadcasts_S1x128_S128x128) transposes_S128x128_p1_0_S128x128⟩,
      ⟨S128x128, transpose S128x128 [1, 0] (broadcastTo S128x128 (shapeCast S1x128 (extractStridedSlice S1x128 ![0, 896] w slices_S1x2048_o0_896_S1x128) shapeCasts_S1x128_S1x128) broadcasts_S1x128_S128x128) transposes_S128x128_p1_0_S128x128⟩,
      ⟨S128x128, transpose S128x128 [1, 0] (broadcastTo S128x128 (shapeCast S1x128 (extractStridedSlice S1x128 ![0, 1024] w slices_S1x2048_o0_1024_S1x128) shapeCasts_S1x128_S1x128) broadcasts_S1x128_S128x128) transposes_S128x128_p1_0_S128x128⟩,
      ⟨S128x128, transpose S128x128 [1, 0] (broadcastTo S128x128 (shapeCast S1x128 (extractStridedSlice S1x128 ![0, 1152] w slices_S1x2048_o0_1152_S1x128) shapeCasts_S1x128_S1x128) broadcasts_S1x128_S128x128) transposes_S128x128_p1_0_S128x128⟩,
      ⟨S128x128, transpose S128x128 [1, 0] (broadcastTo S128x128 (shapeCast S1x128 (extractStridedSlice S1x128 ![0, 1280] w slices_S1x2048_o0_1280_S1x128) shapeCasts_S1x128_S1x128) broadcasts_S1x128_S128x128) transposes_S128x128_p1_0_S128x128⟩,
      ⟨S128x128, transpose S128x128 [1, 0] (broadcastTo S128x128 (shapeCast S1x128 (extractStridedSlice S1x128 ![0, 1408] w slices_S1x2048_o0_1408_S1x128) shapeCasts_S1x128_S1x128) broadcasts_S1x128_S128x128) transposes_S128x128_p1_0_S128x128⟩,
      ⟨S128x128, transpose S128x128 [1, 0] (broadcastTo S128x128 (shapeCast S1x128 (extractStridedSlice S1x128 ![0, 1536] w slices_S1x2048_o0_1536_S1x128) shapeCasts_S1x128_S1x128) broadcasts_S1x128_S128x128) transposes_S128x128_p1_0_S128x128⟩,
      ⟨S128x128, transpose S128x128 [1, 0] (broadcastTo S128x128 (shapeCast S1x128 (extractStridedSlice S1x128 ![0, 1664] w slices_S1x2048_o0_1664_S1x128) shapeCasts_S1x128_S1x128) broadcasts_S1x128_S128x128) transposes_S128x128_p1_0_S128x128⟩,
      ⟨S128x128, transpose S128x128 [1, 0] (broadcastTo S128x128 (shapeCast S1x128 (extractStridedSlice S1x128 ![0, 1792] w slices_S1x2048_o0_1792_S1x128) shapeCasts_S1x128_S1x128) broadcasts_S1x128_S128x128) transposes_S128x128_p1_0_S128x128⟩,
      ⟨S128x128, transpose S128x128 [1, 0] (broadcastTo S128x128 (shapeCast S1x128 (extractStridedSlice S1x128 ![0, 1920] w slices_S1x2048_o0_1920_S1x128) shapeCasts_S1x128_S1x128) broadcasts_S1x128_S128x128) transposes_S128x128_p1_0_S128x128⟩] concatenates_S128x128_S128x128_S128x128_S128x128_S128x128_S128x128_S128x128_S128x128_S128x128_S128x128_S128x128_S128x128_S128x128_S128x128_S128x128_S128x128_S2048x128_d0) bitsLt_bf16_f32

theorem tile_slices : ∀ n : Fin 16, S1x2048.Slices ![0, 128 * n.val] S1x128 := by decide

/-- One tile of the column. -/
def tile (w : Vec Ideal S1x2048 .f32) (n : Fin 16) : FVec Ideal S128x128 .f32 :=
  transpose S128x128 [1, 0] (broadcastTo S128x128 (shapeCast S1x128 (extractStridedSlice S1x128 ![0, 128 * n.val] w (tile_slices n)) shapeCasts_S1x128_S1x128) broadcasts_S1x128_S128x128) transposes_S128x128_p1_0_S128x128

theorem tile_at (w : Vec Ideal S1x2048 .f32) (n : Fin 16) (a l : Fin 128) : tile w n (ix2 a l) = w (ix2 0 ⟨128 * n.val + a.val, by omega⟩) := by
  pointwise [tile]

theorem colOf_at (w : Vec Ideal S1x2048 .f32) (j : Fin 2048) (l : Fin 128) : colOf w (ix2 j l) = w (ix2 0 j) := by
  have hj := j.isLt
  show concatenate S2048x128 0 (List.ofFn fun n : Fin 16 => (⟨S128x128, tile w n⟩ : (s : Shape) × (s.Idx → Ideal .f32))) concatenates_S128x128_S128x128_S128x128_S128x128_S128x128_S128x128_S128x128_S128x128_S128x128_S128x128_S128x128_S128x128_S128x128_S128x128_S128x128_S128x128_S2048x128_d0 (ix2 j l) = _
  refine (Idealize.ShloMosaic.concatenate_ofFn_apply (s₁ := S128x128) (t := S2048x128) 0 (tile w) _ rfl 128 rfl (ix2 j l) ⟨j.val / 128, by omega⟩ rfl
    (ix2 ⟨j.val % 128, by omega⟩ l) rfl (fun b hb => by fin_cases b <;> first | exact absurd rfl hb | rfl)).trans ?_
  rw [tile_at]
  exact congrArg (fun j => w (ix2 0 j)) (Fin.ext (by show 128 * (j.val / 128) + j.val % 128 = j.val; omega))

/-- One piece of the scaled codes. -/
theorem yb_piece (x4 : Vec Ideal S1x2048x768 .fp8e4m3) (w : Vec Ideal S1x2048 .f32) (o : ℕ) (i4 : ∀ a, ![0, 0, o] a + ![1, 2048, 128] a ≤ S1x2048x768.size a)
    (i14 : ∀ a, ![0, o] a + ![2048, 128] a ≤ S2048x768.size a) : ∀ x : (Rect.unit (s := S2048x768) ![0, o] ![2048, 128] i14).shape.Idx,
      k0_pay52 (F := Ideal) (colOf w) (View.ld (Val := Elt Ideal) x4 (Rect.unit (s := S1x2048x768) ![0, 0, o] ![1, 2048, 128] i4)) x
        = ybArr x4 w ((Rect.unit (s := S2048x768) ![0, o] ![2048, 128] i14).emb x) := fun x => by
  obtain ⟨j, l, rfl⟩ : ∃ (j : Fin 2048) (l : Fin 128), x = ix2 j l := ⟨x 0, x 1, by idx_ext⟩
  pointwise [k0_pay52]
  rw [colOf_at]
  have he : (Rect.unit (s := S2048x768) ![0, o] ![2048, 128] i14).emb (ix2 j l) = ix2 j ⟨o + l.val, by have := i14 1; have := l.isLt; simp at *; omega⟩ := by
    funext a
    fin_cases a
    · apply Fin.ext; show 0 + 1 * j.val = j.val; omega
    · apply Fin.ext; show o + 1 * l.val = o + l.val; omega
  rw [he]
  rfl

/-- One row of a two-row array loaded and stored as an array of one row. -/
theorem rowOf_eq {e : EltTy} (x : Vec Ideal S2x2048 e) (k : Fin 2) (o : ℕ) (ho : k.val = o) (inb : ∀ a, ![o, 0] a + ![1, 2048] a ≤ S2x2048.size a) (hc : S1x2048.ShapeCasts S1x2048) :
    shapeCast S1x2048 (View.ld (Val := Elt Ideal) x (Rect.unit (s := S2x2048) ![o, 0] ![1, 2048] inb)) hc = rowOf x k := by
  subst ho
  funext y
  obtain ⟨a, j, rfl⟩ : ∃ (a : Fin 1) (j : Fin 2048), y = ix2 a j := ⟨y 0, y 1, by idx_ext⟩
  obtain rfl : a = 0 := Subsingleton.elim _ _
  pointwise
  refine congrArg x (funext fun a' => ?_)
  fin_cases a'
  · rfl
  · rfl

/-- The one entry of an array of one entry. -/
theorem ld_first (x : Vec Ideal S1x1 .f32) (inb : ∀ a, ![0, 0] a + ![1, 1] a ≤ S1x1.size a) (h : 0 < (Rect.unit (s := S1x1) ![0, 0] ![1, 1] inb).shape.numel) :
    View.ld (Val := Elt Ideal) x (Rect.unit (s := S1x1) ![0, 0] ![1, 1] inb) (Shape.Idx.first h) = x (ix2 0 0) := by
  refine congrArg x (funext fun a => ?_)
  fin_cases a <;> exact Subsingleton.elim (α := Fin 1) _ _

/-- A row stored whole is itself. -/
theorem whole_row {e : EltTy} (w : Vec Ideal S1x2048 e) (inb : ∀ a, ![0, 0] a + ![1, 2048] a ≤ S1x2048.size a) (x : (Rect.unit (s := S1x2048) ![0, 0] ![1, 2048] inb).shape.Idx) :
    w x = w ((Rect.unit (s := S1x2048) ![0, 0] ![1, 2048] inb).emb x) := by
  refine congrArg w (funext fun a => ?_)
  fin_cases a
  · apply Fin.ext; show (x 0).val = 0 + 1 * (x 0).val; omega
  · apply Fin.ext; show (x 1).val = 0 + 1 * (x 1).val; omega

/-- The six pieces of the scaled codes. -/
theorem yb_key (x4 : Vec Ideal S1x2048x768 .fp8e4m3) (w w' : Vec Ideal S1x2048 .f32) (e : w' = w) (a5 : ∀ a, ![0, 0, 640] a + ![1, 2048, 128] a ≤ S1x2048x768.size a) (b5 : ∀ a, ![0, 640] a + ![2048, 128] a ≤ S2048x768.size a) (a4 : ∀ a, ![0, 0, 512] a + ![1, 2048, 128] a ≤ S1x2048x768.size a) (b4 : ∀ a, ![0, 512] a + ![2048, 128] a ≤ S2048x768.size a) (a3 : ∀ a, ![0, 0, 384] a + ![1, 2048, 128] a ≤ S1x2048x768.size a) (b3 : ∀ a, ![0, 384] a + ![2048, 128] a ≤ S2048x768.size a) (a2 : ∀ a, ![0, 0, 256] a + ![1, 2048, 128] a ≤ S1x2048x768.size a) (b2 : ∀ a, ![0, 256] a + ![2048, 128] a ≤ S2048x768.size a) (a1 : ∀ a, ![0, 0, 128] a + ![1, 2048, 128] a ≤ S1x2048x768.size a) (b1 : ∀ a, ![0, 128] a + ![2048, 128] a ≤ S2048x768.size a) (a0 : ∀ a, ![0, 0, 0] a + ![1, 2048, 128] a ≤ S1x2048x768.size a) (b0 : ∀ a, ![0, 0] a + ![2048, 128] a ≤ S2048x768.size a) :
    View.PiecesOf (Val := Elt Ideal) (e := .bf16) (ybArr x4 w) [⟨Rect.unit (s := S2048x768) ![0, 640] ![2048, 128] b5, k0_pay52 (F := Ideal) (colOf w') (View.ld (Val := Elt Ideal) x4 (Rect.unit (s := S1x2048x768) ![0, 0, 640] ![1, 2048, 128] a5))⟩, ⟨Rect.unit (s := S2048x768) ![0, 512] ![2048, 128] b4, k0_pay52 (F := Ideal) (colOf w') (View.ld (Val := Elt Ideal) x4 (Rect.unit (s := S1x2048x768) ![0, 0, 512] ![1, 2048, 128] a4))⟩, ⟨Rect.unit (s := S2048x768) ![0, 384] ![2048, 128] b3, k0_pay52 (F := Ideal) (colOf w') (View.ld (Val := Elt Ideal) x4 (Rect.unit (s := S1x2048x768) ![0, 0, 384] ![1, 2048, 128] a3))⟩, ⟨Rect.unit (s := S2048x768) ![0, 256] ![2048, 128] b2, k0_pay52 (F := Ideal) (colOf w') (View.ld (Val := Elt Ideal) x4 (Rect.unit (s := S1x2048x768) ![0, 0, 256] ![1, 2048, 128] a2))⟩, ⟨Rect.unit (s := S2048x768) ![0, 128] ![2048, 128] b1, k0_pay52 (F := Ideal) (colOf w') (View.ld (Val := Elt Ideal) x4 (Rect.unit (s := S1x2048x768) ![0, 0, 128] ![1, 2048, 128] a1))⟩, ⟨Rect.unit (s := S2048x768) ![0, 0] ![2048, 128] b0, k0_pay52 (F := Ideal) (colOf w') (View.ld (Val := Elt Ideal) x4 (Rect.unit (s := S1x2048x768) ![0, 0, 0] ![1, 2048, 128] a0))⟩] :=
  ⟨by subst e; exact yb_piece x4 w' 640 a5 b5, by subst e; exact yb_piece x4 w' 512 a4 b4, by subst e; exact yb_piece x4 w' 384 a3 b3,
    by subst e; exact yb_piece x4 w' 256 a2 b2, by subst e; exact yb_piece x4 w' 128 a1 b1, by subst e; exact yb_piece x4 w' 0 a0 b0, trivial⟩

/-- The cleared accumulator. -/
def zArr : Vec Ideal S768x2048 .f32 := fun _ => 0

section Pre

variable (c : Dev nD) (arg2 : Memref sig .tc .vmem S1x256x768 .fp8e4m3) (harg2 : arg2.IsWhole) (arg3 : Memref sig .tc .vmem S2x2048 .f32) (harg3 : arg3.IsWhole) (arg4 : Memref sig .tc .vmem S1x2048x768 .fp8e4m3) (harg4 : arg4.IsWhole) (arg5 : Memref sig .tc .vmem S2x2048 .f32) (harg5 : arg5.IsWhole) (arg6 : Memref sig .tc .vmem S2x2048 .i32) (harg6 : arg6.IsWhole) (arg7 : Memref sig .tc .smem S1x1 .f32) (harg7 : arg7.IsWhole) (arg8 : Memref sig .tc .smem S1x1 .f32) (harg8 : arg8.IsWhole) (arg9 : Memref sig .tc .vmem S2x2048 .f32) (harg9 : arg9.IsWhole) (arg10 : Memref sig .tc .vmem S1x256x768 .bf16) (harg10 : arg10.IsWhole) (arg11 : Memref sig .tc .vmem S1x2048x768 .bf16) (harg11 : arg11.IsWhole) (arg12 : Memref sig .tc .vmem S2x2048 .f32) (harg12 : arg12.IsWhole) (arg13 : Memref sig .tc .vmem S2x2048 .f32) (harg13 : arg13.IsWhole) (arg14 : Memref sig .tc .vmem S2048x768 .bf16) (harg14 : arg14.IsWhole) (arg15 : Memref sig .tc .vmem S768x2048 .f32) (harg15 : arg15.IsWhole) (arg16 : Memref sig .tc .vmem S256x2048 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .i32) (harg19 : arg19.IsWhole) (arg20 : Memref sig .tc .vmem S3x1x2048 .f32) (harg20 : arg20.IsWhole)
  (x2 : Vec Ideal S1x256x768 .fp8e4m3) (x3 : Vec Ideal S2x2048 .f32) (x4 : Vec Ideal S1x2048x768 .fp8e4m3) (x5 : Vec Ideal S2x2048 .f32) (x6 : Vec Ideal S2x2048 .i32) (x7 : Vec Ideal S1x1 .f32) (x8 : Vec Ideal S1x1 .f32)

/-- The run of the first stretch, its pieces any that are known to hold what is named. -/
theorem pre_wp_aux (L14 : List (View.Piece (Elt Ideal) S2048x768 .bf16)) (L15 : List (View.Piece (Elt Ideal) S768x2048 .f32)) (L17 : List (View.Piece (Elt Ideal) S1x2048 .f32)) (L18 : List (View.Piece (Elt Ideal) S1x2048 .f32)) (L19 : List (View.Piece (Elt Ideal) S1x2048 .i32)) (d14 : Vec Ideal S2048x768 .bf16) (d15 : Vec Ideal S768x2048 .f32) (d17 : Vec Ideal S1x2048 .f32) (d18 : Vec Ideal S1x2048 .f32) (d19 : Vec Ideal S1x2048 .i32) (P Q : sProp 𝕄)
    (p14 : View.PiecesOf (Val := Elt Ideal) d14 L14) (c14 : ∀ y, ∃ p ∈ L14, y ∈ p.1.set) (p15 : View.PiecesOf (Val := Elt Ideal) d15 L15) (c15 : ∀ y, ∃ p ∈ L15, y ∈ p.1.set) (p17 : View.PiecesOf (Val := Elt Ideal) d17 L17) (c17 : ∀ y, ∃ p ∈ L17, y ∈ p.1.set) (p18 : View.PiecesOf (Val := Elt Ideal) d18 L18) (c18 : ∀ y, ∃ p ∈ L18, y ∈ p.1.set) (p19 : View.PiecesOf (Val := Elt Ideal) d19 L19) (c19 : ∀ y, ∃ p ∈ L19, y ∈ p.1.set)
    (run : iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg14 fullShare d) ∗ (∃ d, owns (c : Thread nD τ) arg15 fullShare d) ∗ (∃ d, owns (c : Thread nD τ) arg17 fullShare d) ∗ (∃ d, owns (c : Thread nD τ) arg18 fullShare d) ∗ (∃ d, owns (c : Thread nD τ) arg19 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg14.view.loc (c : Thread nD τ) ↦[arg14.view.set]{fullShare} arg14.view.writes (Elt Ideal) f L14) ∗ (∃ f, arg15.view.loc (c : Thread nD τ) ↦[arg15.view.set]{fullShare} arg15.view.writes (Elt Ideal) f L15) ∗ (∃ f, arg17.view.loc (c : Thread nD τ) ↦[arg17.view.set]{fullShare} arg17.view.writes (Elt Ideal) f L17) ∗ (∃ f, arg18.view.loc (c : Thread nD τ) ↦[arg18.view.set]{fullShare} arg18.view.writes (Elt Ideal) f L18) ∗ (∃ f, arg19.view.loc (c : Thread nD τ) ↦[arg19.view.set]{fullShare} arg19.view.writes (Elt Ideal) f L19)) -∗ Q)) ⊢ P) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg14 fullShare d) ∗ (∃ d, owns (c : Thread nD τ) arg15 fullShare d) ∗ (∃ d, owns (c : Thread nD τ) arg17 fullShare d) ∗ (∃ d, owns (c : Thread nD τ) arg18 fullShare d) ∗ (∃ d, owns (c : Thread nD τ) arg19 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg14 fullShare d14 ∗ owns (c : Thread nD τ) arg15 fullShare d15 ∗ owns (c : Thread nD τ) arg17 fullShare d17 ∗ owns (c : Thread nD τ) arg18 fullShare d18 ∗ owns (c : Thread nD τ) arg19 fullShare d19) -∗ Q)) ⊢ P := by
  refine BIBase.Entails.trans ?_ run
  iintro ⟨H2, H3, H4, H5, H6, H7, H8, H14, H15, H17, H18, H19, Hk⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H14]; · iexact H14
  isplitl [H15]; · iexact H15
  isplitl [H17]; · iexact H17
  isplitl [H18]; · iexact H18
  isplitl [H19]; · iexact H19
  iintro ⟨H2, H3, H4, H5, H6, H7, H8, ⟨%f14, H14⟩, ⟨%f15, H15⟩, ⟨%f17, H17⟩, ⟨%f18, H18⟩, ⟨%f19, H19⟩⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H14]
  · unfold owns; iexists (arg14.view.writes (Elt Ideal) f14 L14); isplitr
    · ipureintro
      exact funext fun y => View.read_writes_apply_of_pieces _ _ _ _ p14.mem y (c14 y)
    · iexact H14
  isplitl [H15]
  · unfold owns; iexists (arg15.view.writes (Elt Ideal) f15 L15); isplitr
    · ipureintro
      exact funext fun y => View.read_writes_apply_of_pieces _ _ _ _ p15.mem y (c15 y)
    · iexact H15
  isplitl [H17]
  · unfold owns; iexists (arg17.view.writes (Elt Ideal) f17 L17); isplitr
    · ipureintro
      exact funext fun y => View.read_writes_apply_of_pieces _ _ _ _ p17.mem y (c17 y)
    · iexact H17
  isplitl [H18]
  · unfold owns; iexists (arg18.view.writes (Elt Ideal) f18 L18); isplitr
    · ipureintro
      exact funext fun y => View.read_writes_apply_of_pieces _ _ _ _ p18.mem y (c18 y)
    · iexact H18
  unfold owns; iexists (arg19.view.writes (Elt Ideal) f19 L19); isplitr
  · ipureintro
    exact funext fun y => View.read_writes_apply_of_pieces _ _ _ _ p19.mem y (c19 y)
  · iexact H19

section A

variable (i : grid0.Coords) (hc0 : cond0_0 i) (hc1 : cond0_1 i) (hc2 : ¬cond0_2 i)

theorem preA_V : VOk (i 1).val x2 (rowOf x3 0) (rowOf x6 0) (x7 (ix2 0 0)) (x8 (ix2 0 0)) (preA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).1 := by
  frame_open
  simp (disch := decide) only [↓ View.readCov_skip, ↓ View.readCov_cons_toLoadRect, ↓ View.readCov_fill]
  frame_out
  rw [rowOf_eq x6 0 0 rfl, rowOf_eq x3 0 0 rfl, ld_first x7, ld_first x8]
  exact vok i x2 (rowOf x3 0) (rowOf x6 0) (x7 (ix2 0 0)) (x8 (ix2 0 0)) _ _ _ _ _

theorem preA_p14 : View.PiecesOf (Val := Elt Ideal) (ybArr x4 (rowOf x5 0)) (preA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.1 := by
  frame_open
  simp (disch := decide) only [↓ View.readCov_skip, ↓ View.readCov_cons_toLoadRect, ↓ View.readCov_fill]
  try frame_out
  exact yb_key x4 _ _ ((View.readCov_cons_toLoadRect _ _ _ _).trans ((congrArg (fun z => shapeCast S1x2048 (View.ld (Val := Elt Ideal) z (Rect.unit (s := S2x2048) ![0, 0] ![1, 2048] (by decide))) shapeCasts_S1x2048_S1x2048) (harg5.read_unread x5)).trans (rowOf_eq x5 0 0 rfl _ _))) _ _ _ _ _ _ _ _ _ _ _ _

theorem preA_c14 (y : S2048x768.Idx) : ∃ p ∈ (preA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.1, y ∈ p.1.set := View.cover_of_tiled (s := S2048x768) (Val := Elt Ideal) (e := .bf16) (preA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.1 ![2048, 128] rfl y

theorem preA_p15 : View.PiecesOf (Val := Elt Ideal) zArr (preA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.1 := by
  frame_open
  simp (disch := decide) only [↓ View.readCov_skip, ↓ View.readCov_cons_toLoadRect, ↓ View.readCov_fill]
  try frame_out
  exact ⟨fun x => by pointwise [k0_pay55, zArr], trivial⟩

theorem preA_c15 (y : S768x2048.Idx) : ∃ p ∈ (preA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.1, y ∈ p.1.set := View.cover_of_tiled (s := S768x2048) (Val := Elt Ideal) (e := .f32) (preA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.1 ![768, 2048] rfl y

theorem preA_p17 : View.PiecesOf (Val := Elt Ideal) (rowOf x3 0) (preA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.2.1 := by
  frame_open
  simp (disch := decide) only [↓ View.readCov_skip, ↓ View.readCov_cons_toLoadRect, ↓ View.readCov_fill]
  try frame_out
  rw [rowOf_eq x3 0 0 rfl]
  exact ⟨whole_row _ (by decide), trivial⟩

theorem preA_c17 (y : S1x2048.Idx) : ∃ p ∈ (preA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.2.1, y ∈ p.1.set := View.cover_of_tiled (s := S1x2048) (Val := Elt Ideal) (e := .f32) (preA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.2.1 ![1, 2048] rfl y

theorem preA_p18 : View.PiecesOf (Val := Elt Ideal) (rowOf x5 0) (preA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.2.2.1 := by
  frame_open
  simp (disch := decide) only [↓ View.readCov_skip, ↓ View.readCov_cons_toLoadRect, ↓ View.readCov_fill]
  try frame_out
  rw [rowOf_eq x5 0 0 rfl]
  exact ⟨whole_row _ (by decide), trivial⟩

theorem preA_c18 (y : S1x2048.Idx) : ∃ p ∈ (preA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.2.2.1, y ∈ p.1.set := View.cover_of_tiled (s := S1x2048) (Val := Elt Ideal) (e := .f32) (preA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.2.2.1 ![1, 2048] rfl y

theorem preA_p19 : View.PiecesOf (Val := Elt Ideal) (rowOf x6 0) (preA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.2.2.2.1 := by
  frame_open
  simp (disch := decide) only [↓ View.readCov_skip, ↓ View.readCov_cons_toLoadRect, ↓ View.readCov_fill]
  try frame_out
  rw [rowOf_eq x6 0 0 rfl]
  exact ⟨whole_row _ (by decide), trivial⟩

theorem preA_c19 (y : S1x2048.Idx) : ∃ p ∈ (preA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.2.2.2.1, y ∈ p.1.set := View.cover_of_tiled (s := S1x2048) (Val := Elt Ideal) (e := .i32) (preA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.2.2.2.1 ![1, 2048] rfl y

include hc0 hc1 hc2 in
/-- The first stretch at the first point of batch 0, with what each buffer holds afterwards. -/
theorem preA_wp (E : Set ℕ) (kk : (Σ' (arg0 : BitVec 32) (arg1 : BitVec 32) (v2 : FVec Ideal S1x128 .f32) (v4 : Ideal .f32) (v9 : BitVec 32) (v31 : IVec S256x128 32) (v35 : FVec Ideal S256x128 .f32) (v36 : FVec Ideal S256x128 .bf16), FVec Ideal S128x256 .bf16) → Prog (TpuEff nD τ sig (Elt Ideal) Λ₀ .tc) PUnit) (Q : PUnit → sProp 𝕄) :
    ∃ V : (Σ' (arg0 : BitVec 32) (arg1 : BitVec 32) (v2 : FVec Ideal S1x128 .f32) (v4 : Ideal .f32) (v9 : BitVec 32) (v31 : IVec S256x128 32) (v35 : FVec Ideal S256x128 .f32) (v36 : FVec Ideal S256x128 .bf16), FVec Ideal S128x256 .bf16), VOk (i 1).val x2 (rowOf x3 0) (rowOf x6 0) (x7 (ix2 0 0)) (x8 (ix2 0 0)) V ∧
      (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg14 fullShare d) ∗ (∃ d, owns (c : Thread nD τ) arg15 fullShare d) ∗ (∃ d, owns (c : Thread nD τ) arg17 fullShare d) ∗ (∃ d, owns (c : Thread nD τ) arg18 fullShare d) ∗ (∃ d, owns (c : Thread nD τ) arg19 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg14 fullShare (ybArr x4 (rowOf x5 0)) ∗ owns (c : Thread nD τ) arg15 fullShare zArr ∗ owns (c : Thread nD τ) arg17 fullShare (rowOf x3 0) ∗ owns (c : Thread nD τ) arg18 fullShare (rowOf x5 0) ∗ owns (c : Thread nD τ) arg19 fullShare (rowOf x6 0)) -∗ wp frame (wpE (defs₀ (F := Ideal)) Variants.none c none) E (kk V) Q))
        ⊢ wp frame (wpE (defs₀ (F := Ideal)) Variants.none c none) E (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 >>= kk) Q) :=
  ⟨(preA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).1, preA_V c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 i hc0 hc1 hc2, pre_wp_aux c arg2 arg3 arg4 arg5 arg6 arg7 arg8 arg14 arg15 arg17 arg18 arg19 x2 x3 x4 x5 x6 x7 x8 (preA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.1 (preA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.1 (preA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.2.1 (preA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.2.2.1 (preA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.2.2.2.1 (ybArr x4 (rowOf x5 0)) zArr (rowOf x3 0) (rowOf x5 0) (rowOf x6 0) _ _
    (preA_p14 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 i hc0 hc1 hc2) (preA_c14 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 i hc0 hc1 hc2) (preA_p15 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 i hc0 hc1 hc2) (preA_c15 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 i hc0 hc1 hc2) (preA_p17 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 i hc0 hc1 hc2) (preA_c17 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 i hc0 hc1 hc2) (preA_p18 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 i hc0 hc1 hc2) (preA_c18 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 i hc0 hc1 hc2) (preA_p19 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 i hc0 hc1 hc2) (preA_c19 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 i hc0 hc1 hc2) ((preA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.2.2.2.2 E kk Q)⟩

end A

section D

variable (i : grid0.Coords) (hc0 : cond0_0 i) (hc1 : ¬cond0_1 i) (hc2 : cond0_2 i)

theorem preD_V : VOk (i 1).val x2 (rowOf x3 1) (rowOf x6 1) (x7 (ix2 0 0)) (x8 (ix2 0 0)) (preD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).1 := by
  frame_open
  simp (disch := decide) only [↓ View.readCov_skip, ↓ View.readCov_cons_toLoadRect, ↓ View.readCov_fill]
  frame_out
  rw [rowOf_eq x6 1 1 rfl, rowOf_eq x3 1 1 rfl, ld_first x7, ld_first x8]
  exact vok i x2 (rowOf x3 1) (rowOf x6 1) (x7 (ix2 0 0)) (x8 (ix2 0 0)) _ _ _ _ _

theorem preD_p14 : View.PiecesOf (Val := Elt Ideal) (ybArr x4 (rowOf x5 1)) (preD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.1 := by
  frame_open
  simp (disch := decide) only [↓ View.readCov_skip, ↓ View.readCov_cons_toLoadRect, ↓ View.readCov_fill]
  try frame_out
  exact yb_key x4 _ _ ((View.readCov_cons_toLoadRect _ _ _ _).trans ((congrArg (fun z => shapeCast S1x2048 (View.ld (Val := Elt Ideal) z (Rect.unit (s := S2x2048) ![1, 0] ![1, 2048] (by decide))) shapeCasts_S1x2048_S1x2048) (harg5.read_unread x5)).trans (rowOf_eq x5 1 1 rfl _ _))) _ _ _ _ _ _ _ _ _ _ _ _

theorem preD_c14 (y : S2048x768.Idx) : ∃ p ∈ (preD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.1, y ∈ p.1.set := View.cover_of_tiled (s := S2048x768) (Val := Elt Ideal) (e := .bf16) (preD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.1 ![2048, 128] rfl y

theorem preD_p15 : View.PiecesOf (Val := Elt Ideal) zArr (preD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.1 := by
  frame_open
  simp (disch := decide) only [↓ View.readCov_skip, ↓ View.readCov_cons_toLoadRect, ↓ View.readCov_fill]
  try frame_out
  exact ⟨fun x => by pointwise [k0_pay55, zArr], trivial⟩

theorem preD_c15 (y : S768x2048.Idx) : ∃ p ∈ (preD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.1, y ∈ p.1.set := View.cover_of_tiled (s := S768x2048) (Val := Elt Ideal) (e := .f32) (preD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.1 ![768, 2048] rfl y

theorem preD_p17 : View.PiecesOf (Val := Elt Ideal) (rowOf x3 1) (preD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.2.1 := by
  frame_open
  simp (disch := decide) only [↓ View.readCov_skip, ↓ View.readCov_cons_toLoadRect, ↓ View.readCov_fill]
  try frame_out
  rw [rowOf_eq x3 1 1 rfl]
  exact ⟨whole_row _ (by decide), trivial⟩

theorem preD_c17 (y : S1x2048.Idx) : ∃ p ∈ (preD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.2.1, y ∈ p.1.set := View.cover_of_tiled (s := S1x2048) (Val := Elt Ideal) (e := .f32) (preD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.2.1 ![1, 2048] rfl y

theorem preD_p18 : View.PiecesOf (Val := Elt Ideal) (rowOf x5 1) (preD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.2.2.1 := by
  frame_open
  simp (disch := decide) only [↓ View.readCov_skip, ↓ View.readCov_cons_toLoadRect, ↓ View.readCov_fill]
  try frame_out
  rw [rowOf_eq x5 1 1 rfl]
  exact ⟨whole_row _ (by decide), trivial⟩

theorem preD_c18 (y : S1x2048.Idx) : ∃ p ∈ (preD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.2.2.1, y ∈ p.1.set := View.cover_of_tiled (s := S1x2048) (Val := Elt Ideal) (e := .f32) (preD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.2.2.1 ![1, 2048] rfl y

theorem preD_p19 : View.PiecesOf (Val := Elt Ideal) (rowOf x6 1) (preD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.2.2.2.1 := by
  frame_open
  simp (disch := decide) only [↓ View.readCov_skip, ↓ View.readCov_cons_toLoadRect, ↓ View.readCov_fill]
  try frame_out
  rw [rowOf_eq x6 1 1 rfl]
  exact ⟨whole_row _ (by decide), trivial⟩

theorem preD_c19 (y : S1x2048.Idx) : ∃ p ∈ (preD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.2.2.2.1, y ∈ p.1.set := View.cover_of_tiled (s := S1x2048) (Val := Elt Ideal) (e := .i32) (preD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.2.2.2.1 ![1, 2048] rfl y

include hc0 hc1 hc2 in
/-- The first stretch at the first point of batch 1, with what each buffer holds afterwards. -/
theorem preD_wp (E : Set ℕ) (kk : (Σ' (arg0 : BitVec 32) (arg1 : BitVec 32) (v2 : FVec Ideal S1x128 .f32) (v4 : Ideal .f32) (v9 : BitVec 32) (v31 : IVec S256x128 32) (v35 : FVec Ideal S256x128 .f32) (v36 : FVec Ideal S256x128 .bf16), FVec Ideal S128x256 .bf16) → Prog (TpuEff nD τ sig (Elt Ideal) Λ₀ .tc) PUnit) (Q : PUnit → sProp 𝕄) :
    ∃ V : (Σ' (arg0 : BitVec 32) (arg1 : BitVec 32) (v2 : FVec Ideal S1x128 .f32) (v4 : Ideal .f32) (v9 : BitVec 32) (v31 : IVec S256x128 32) (v35 : FVec Ideal S256x128 .f32) (v36 : FVec Ideal S256x128 .bf16), FVec Ideal S128x256 .bf16), VOk (i 1).val x2 (rowOf x3 1) (rowOf x6 1) (x7 (ix2 0 0)) (x8 (ix2 0 0)) V ∧
      (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg14 fullShare d) ∗ (∃ d, owns (c : Thread nD τ) arg15 fullShare d) ∗ (∃ d, owns (c : Thread nD τ) arg17 fullShare d) ∗ (∃ d, owns (c : Thread nD τ) arg18 fullShare d) ∗ (∃ d, owns (c : Thread nD τ) arg19 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg14 fullShare (ybArr x4 (rowOf x5 1)) ∗ owns (c : Thread nD τ) arg15 fullShare zArr ∗ owns (c : Thread nD τ) arg17 fullShare (rowOf x3 1) ∗ owns (c : Thread nD τ) arg18 fullShare (rowOf x5 1) ∗ owns (c : Thread nD τ) arg19 fullShare (rowOf x6 1)) -∗ wp frame (wpE (defs₀ (F := Ideal)) Variants.none c none) E (kk V) Q))
        ⊢ wp frame (wpE (defs₀ (F := Ideal)) Variants.none c none) E (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 >>= kk) Q) :=
  ⟨(preD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).1, preD_V c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 i hc0 hc1 hc2, pre_wp_aux c arg2 arg3 arg4 arg5 arg6 arg7 arg8 arg14 arg15 arg17 arg18 arg19 x2 x3 x4 x5 x6 x7 x8 (preD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.1 (preD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.1 (preD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.2.1 (preD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.2.2.1 (preD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.2.2.2.1 (ybArr x4 (rowOf x5 1)) zArr (rowOf x3 1) (rowOf x5 1) (rowOf x6 1) _ _
    (preD_p14 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 i hc0 hc1 hc2) (preD_c14 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 i hc0 hc1 hc2) (preD_p15 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 i hc0 hc1 hc2) (preD_c15 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 i hc0 hc1 hc2) (preD_p17 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 i hc0 hc1 hc2) (preD_c17 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 i hc0 hc1 hc2) (preD_p18 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 i hc0 hc1 hc2) (preD_c18 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 i hc0 hc1 hc2) (preD_p19 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 i hc0 hc1 hc2) (preD_c19 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 i hc0 hc1 hc2) ((preD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x2 x3 x4 x5 x6 x7 x8).2.2.2.2.2.2 E kk Q)⟩

end D

section B

variable (x17 : Vec Ideal S1x2048 .f32) (x19 : Vec Ideal S1x2048 .i32) (i : grid0.Coords) (hc0 : ¬cond0_0 i)

theorem preB_V : VOk (i 1).val x2 x17 x19 (x7 (ix2 0 0)) (x8 (ix2 0 0)) (preB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x7 x8 x17 x19).1 := by
  frame_open
  simp (disch := decide) only [↓ View.readCov_skip, ↓ View.readCov_cons_toLoadRect, ↓ View.readCov_fill]
  try frame_out
  try rw [ld_first x7, ld_first x8]
  exact vok i x2 x17 x19 (x7 (ix2 0 0)) (x8 (ix2 0 0)) _ _ _ _ _

include hc0 in
/-- The first stretch at a point that is not the first of its batch. -/
theorem preB_wp (E : Set ℕ) (kk : (Σ' (arg0 : BitVec 32) (arg1 : BitVec 32) (v2 : FVec Ideal S1x128 .f32) (v4 : Ideal .f32) (v9 : BitVec 32) (v31 : IVec S256x128 32) (v35 : FVec Ideal S256x128 .f32) (v36 : FVec Ideal S256x128 .bf16), FVec Ideal S128x256 .bf16) → Prog (TpuEff nD τ sig (Elt Ideal) Λ₀ .tc) PUnit) (Q : PUnit → sProp 𝕄) :
    ∃ V : (Σ' (arg0 : BitVec 32) (arg1 : BitVec 32) (v2 : FVec Ideal S1x128 .f32) (v4 : Ideal .f32) (v9 : BitVec 32) (v31 : IVec S256x128 32) (v35 : FVec Ideal S256x128 .f32) (v36 : FVec Ideal S256x128 .bf16), FVec Ideal S128x256 .bf16), VOk (i 1).val x2 x17 x19 (x7 (ix2 0 0)) (x8 (ix2 0 0)) V ∧
      (iprop(owns (c : Thread nD τ) arg2 fullShare x2 ∗ owns (c : Thread nD τ) arg7 fullShare x7 ∗ owns (c : Thread nD τ) arg8 fullShare x8 ∗ owns (c : Thread nD τ) arg17 fullShare x17 ∗ owns (c : Thread nD τ) arg19 fullShare x19 ∗ (iprop(owns (c : Thread nD τ) arg2 fullShare x2 ∗ owns (c : Thread nD τ) arg7 fullShare x7 ∗ owns (c : Thread nD τ) arg8 fullShare x8 ∗ owns (c : Thread nD τ) arg17 fullShare x17 ∗ owns (c : Thread nD τ) arg19 fullShare x19) -∗ wp frame (wpE (defs₀ (F := Ideal)) Variants.none c none) E (kk V) Q))
        ⊢ wp frame (wpE (defs₀ (F := Ideal)) Variants.none c none) E (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 >>= kk) Q) :=
  ⟨(preB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x7 x8 x17 x19).1, preB_V c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x7 x8 x17 x19 i hc0, (preB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x7 x8 x17 x19).2 E kk Q⟩

end B

end Pre

end Cert.KernelIdeal.Hand

end
-- ==== Proof.Hand.SufC.lean ====
/- The last stretch of the body at the last point of the first batch. -/
module

public import proofs.«01_k».proof.Proof.Hand.Mid

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The last stretch at the last point of the first batch: `dy` is stored from its accumulator and the three rows are copied to the outputs. The pieces stored are found by the run. -/
noncomputable def sufC (c : Dev nD) (i : grid0.Coords) (arg2 : Memref sig .tc .vmem S1x256x768 .fp8e4m3) (harg2 : arg2.IsWhole) (arg3 : Memref sig .tc .vmem S2x2048 .f32) (harg3 : arg3.IsWhole) (arg4 : Memref sig .tc .vmem S1x2048x768 .fp8e4m3) (harg4 : arg4.IsWhole) (arg5 : Memref sig .tc .vmem S2x2048 .f32) (harg5 : arg5.IsWhole) (arg6 : Memref sig .tc .vmem S2x2048 .i32) (harg6 : arg6.IsWhole) (arg7 : Memref sig .tc .smem S1x1 .f32) (harg7 : arg7.IsWhole) (arg8 : Memref sig .tc .smem S1x1 .f32) (harg8 : arg8.IsWhole) (arg9 : Memref sig .tc .vmem S2x2048 .f32) (harg9 : arg9.IsWhole) (arg10 : Memref sig .tc .vmem S1x256x768 .bf16) (harg10 : arg10.IsWhole) (arg11 : Memref sig .tc .vmem S1x2048x768 .bf16) (harg11 : arg11.IsWhole) (arg12 : Memref sig .tc .vmem S2x2048 .f32) (harg12 : arg12.IsWhole) (arg13 : Memref sig .tc .vmem S2x2048 .f32) (harg13 : arg13.IsWhole) (arg14 : Memref sig .tc .vmem S2048x768 .bf16) (harg14 : arg14.IsWhole) (arg15 : Memref sig .tc .vmem S768x2048 .f32) (harg15 : arg15.IsWhole) (arg16 : Memref sig .tc .vmem S256x2048 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .i32) (harg19 : arg19.IsWhole) (arg20 : Memref sig .tc .vmem S3x1x2048 .f32) (harg20 : arg20.IsWhole) (v751 : FVec F S1x1 .f32) (hc3 : cond0_3 i) (hc4 : cond0_4 i) (hc5 : ¬cond0_5 i)
    (x9 : Vec F S2x2048 .f32) (x11 : Vec F S1x2048x768 .bf16) (x12 : Vec F S2x2048 .f32) (x13 : Vec F S2x2048 .f32) (x15 : Vec F S768x2048 .f32) (x20 : Vec F S3x1x2048 .f32) :
    Σ' (L9 : List (View.Piece (Elt F) S2x2048 .f32)), Σ' (L11 : List (View.Piece (Elt F) S1x2048x768 .bf16)), Σ' (L12 : List (View.Piece (Elt F) S2x2048 .f32)), { L13 : List (View.Piece (Elt F) S2x2048 .f32) //
      ∀ (E : Set ℕ) (Q : PUnit → sProp 𝕄),
        iprop(owns (c : Thread nD τ) arg9 fullShare x9 ∗ owns (c : Thread nD τ) arg11 fullShare x11 ∗ owns (c : Thread nD τ) arg12 fullShare x12 ∗ owns (c : Thread nD τ) arg13 fullShare x13 ∗ owns (c : Thread nD τ) arg15 fullShare x15 ∗ owns (c : Thread nD τ) arg20 fullShare x20
            ∗ (iprop((arg9.view.loc (c : Thread nD τ) ↦[arg9.view.set]{fullShare} arg9.view.writes (Elt F) (harg9.unread x9) L9) ∗ (arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread x12) L12) ∗ (arg13.view.loc (c : Thread nD τ) ↦[arg13.view.set]{fullShare} arg13.view.writes (Elt F) (harg13.unread x13) L13) ∗ owns (c : Thread nD τ) arg15 fullShare x15 ∗ owns (c : Thread nD τ) arg20 fullShare x20) -∗ Q ⟨⟩))
          ⊢ wp frame (wpE (defs₀ (F := F)) Variants.none c none) E (sufProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751) Q } := by
  refine ⟨?_, ?_, ?_, ?_, fun E Q => ?run⟩
  case run =>
    unfold sufProg
    simp only [k0_part3_eq_skeleton, k0_part4_eq_skeleton, k0_part5_eq_skeleton]
    unfold owns
    iintro ⟨⟨%f9, %hf9, H9⟩, ⟨%f11, %hf11, H11⟩, ⟨%f12, %hf12, H12⟩, ⟨%f13, %hf13, H13⟩, ⟨%f15, %hf15, H15⟩, ⟨%f20, %hf20, H20⟩, Hk⟩
    obtain rfl := harg9.eq_unread hf9; obtain rfl := harg11.eq_unread hf11; obtain rfl := harg12.eq_unread hf12; obtain rfl := harg13.eq_unread hf13; obtain rfl := harg15.eq_unread hf15; obtain rfl := harg20.eq_unread hf20
    sl_exec (disch := first | sl_exact hc3 | sl_exact hc4 | sl_exact hc5)
    sl_step
    iapply Hk
    isplitl [H9]; · iexact H9
    isplitl [H11]; · iexact H11
    isplitl [H12]; · iexact H12
    isplitl [H13]; · iexact H13
    isplitl [H15]
    · iexists _; isplitr; · ipureintro; exact harg15.read_unread _
      iexact H15
    iexists _; isplitr; · ipureintro; exact harg20.read_unread _
    iexact H20

end Cert.KernelIdeal.Hand

end
-- ==== Proof.Hand.SufE.lean ====
/- The last stretch of the body at the last point of the second batch. -/
module

public import proofs.«01_k».proof.Proof.Hand.SufC

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The last stretch at the last point of the second batch: `dy` is stored from its accumulator and the three rows are copied to the outputs. The pieces stored are found by the run. -/
noncomputable def sufE (c : Dev nD) (i : grid0.Coords) (arg2 : Memref sig .tc .vmem S1x256x768 .fp8e4m3) (harg2 : arg2.IsWhole) (arg3 : Memref sig .tc .vmem S2x2048 .f32) (harg3 : arg3.IsWhole) (arg4 : Memref sig .tc .vmem S1x2048x768 .fp8e4m3) (harg4 : arg4.IsWhole) (arg5 : Memref sig .tc .vmem S2x2048 .f32) (harg5 : arg5.IsWhole) (arg6 : Memref sig .tc .vmem S2x2048 .i32) (harg6 : arg6.IsWhole) (arg7 : Memref sig .tc .smem S1x1 .f32) (harg7 : arg7.IsWhole) (arg8 : Memref sig .tc .smem S1x1 .f32) (harg8 : arg8.IsWhole) (arg9 : Memref sig .tc .vmem S2x2048 .f32) (harg9 : arg9.IsWhole) (arg10 : Memref sig .tc .vmem S1x256x768 .bf16) (harg10 : arg10.IsWhole) (arg11 : Memref sig .tc .vmem S1x2048x768 .bf16) (harg11 : arg11.IsWhole) (arg12 : Memref sig .tc .vmem S2x2048 .f32) (harg12 : arg12.IsWhole) (arg13 : Memref sig .tc .vmem S2x2048 .f32) (harg13 : arg13.IsWhole) (arg14 : Memref sig .tc .vmem S2048x768 .bf16) (harg14 : arg14.IsWhole) (arg15 : Memref sig .tc .vmem S768x2048 .f32) (harg15 : arg15.IsWhole) (arg16 : Memref sig .tc .vmem S256x2048 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .i32) (harg19 : arg19.IsWhole) (arg20 : Memref sig .tc .vmem S3x1x2048 .f32) (harg20 : arg20.IsWhole) (v751 : FVec F S1x1 .f32) (hc3 : cond0_3 i) (hc4 : ¬cond0_4 i) (hc5 : cond0_5 i)
    (x9 : Vec F S2x2048 .f32) (x11 : Vec F S1x2048x768 .bf16) (x12 : Vec F S2x2048 .f32) (x13 : Vec F S2x2048 .f32) (x15 : Vec F S768x2048 .f32) (x20 : Vec F S3x1x2048 .f32) :
    Σ' (L9 : List (View.Piece (Elt F) S2x2048 .f32)), Σ' (L11 : List (View.Piece (Elt F) S1x2048x768 .bf16)), Σ' (L12 : List (View.Piece (Elt F) S2x2048 .f32)), { L13 : List (View.Piece (Elt F) S2x2048 .f32) //
      ∀ (E : Set ℕ) (Q : PUnit → sProp 𝕄),
        iprop(owns (c : Thread nD τ) arg9 fullShare x9 ∗ owns (c : Thread nD τ) arg11 fullShare x11 ∗ owns (c : Thread nD τ) arg12 fullShare x12 ∗ owns (c : Thread nD τ) arg13 fullShare x13 ∗ owns (c : Thread nD τ) arg15 fullShare x15 ∗ owns (c : Thread nD τ) arg20 fullShare x20
            ∗ (iprop((arg9.view.loc (c : Thread nD τ) ↦[arg9.view.set]{fullShare} arg9.view.writes (Elt F) (harg9.unread x9) L9) ∗ (arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread x12) L12) ∗ (arg13.view.loc (c : Thread nD τ) ↦[arg13.view.set]{fullShare} arg13.view.writes (Elt F) (harg13.unread x13) L13) ∗ owns (c : Thread nD τ) arg15 fullShare x15 ∗ owns (c : Thread nD τ) arg20 fullShare x20) -∗ Q ⟨⟩))
          ⊢ wp frame (wpE (defs₀ (F := F)) Variants.none c none) E (sufProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751) Q } := by
  refine ⟨?_, ?_, ?_, ?_, fun E Q => ?run⟩
  case run =>
    unfold sufProg
    simp only [k0_part3_eq_skeleton, k0_part4_eq_skeleton, k0_part5_eq_skeleton]
    unfold owns
    iintro ⟨⟨%f9, %hf9, H9⟩, ⟨%f11, %hf11, H11⟩, ⟨%f12, %hf12, H12⟩, ⟨%f13, %hf13, H13⟩, ⟨%f15, %hf15, H15⟩, ⟨%f20, %hf20, H20⟩, Hk⟩
    obtain rfl := harg9.eq_unread hf9; obtain rfl := harg11.eq_unread hf11; obtain rfl := harg12.eq_unread hf12; obtain rfl := harg13.eq_unread hf13; obtain rfl := harg15.eq_unread hf15; obtain rfl := harg20.eq_unread hf20
    sl_exec (disch := first | sl_exact hc3 | sl_exact hc4 | sl_exact hc5)
    sl_step
    iapply Hk
    isplitl [H9]; · iexact H9
    isplitl [H11]; · iexact H11
    isplitl [H12]; · iexact H12
    isplitl [H13]; · iexact H13
    isplitl [H15]
    · iexists _; isplitr; · ipureintro; exact harg15.read_unread _
      iexact H15
    iexists _; isplitr; · ipureintro; exact harg20.read_unread _
    iexact H20

end Cert.KernelIdeal.Hand

end
-- ==== Proof.Hand.SufVal.lean ====
/- What the last stretch of the body stores: the gradient in `y` of a batch, and the three rows of the batch. -/
module

public import proofs.«01_k».proof.Proof.Hand.PreVal
public import proofs.«01_k».proof.Proof.Hand.SufE

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- A row of the three put into row `k` of a two-row array. -/
def rowPut (k : Fin 2) (n : Fin 3) (x20 : Vec Ideal S3x1x2048 .f32) (x : Vec Ideal S2x2048 .f32) : Vec Ideal S2x2048 .f32 := fun y => if (y 0).val = k.val then x20 (ix3 n 0 (y 1)) else x y

/-- The gradient in `y` of a batch, from its transposed sums. -/
def dyArr (x15 : Vec Ideal S768x2048 .f32) (s : EReal) : Vec Ideal S1x2048x768 .bf16 := fun y => x15 (ix2 (y 2) (y 1)) * s

/-- One piece of the gradient in `y`. -/
theorem dy_piece (v751 : FVec Ideal S1x1 .f32) (x15 : Vec Ideal S768x2048 .f32) (o : ℕ) (i15 : ∀ a, ![0, o] a + ![768, 128] a ≤ S768x2048.size a)
    (i11 : ∀ a, ![0, o, 0] a + ![1, 128, 768] a ≤ S1x2048x768.size a) : ∀ x : (Rect.unit (s := S1x2048x768) ![0, o, 0] ![1, 128, 768] i11).shape.Idx,
      k0_pay41 (F := Ideal) v751 (View.ld (Val := Elt Ideal) x15 (Rect.unit (s := S768x2048) ![0, o] ![768, 128] i15)) x
        = dyArr x15 (v751 (ix2 0 0)) ((Rect.unit (s := S1x2048x768) ![0, o, 0] ![1, 128, 768] i11).emb x) := fun x => by
  obtain ⟨a, l, d, rfl⟩ : ∃ (a : Fin 1) (l : Fin 128) (d : Fin 768), x = ix3 a l d := ⟨x 0, x 1, x 2, by idx_ext⟩
  obtain rfl : a = 0 := Subsingleton.elim _ _
  pointwise [k0_pay41]
  have hl : o + l.val < 2048 := by have := i11 1; have := l.isLt; simp at *; omega
  have he : (Rect.unit (s := S1x2048x768) ![0, o, 0] ![1, 128, 768] i11).emb (ix3 0 l d) = ix3 0 ⟨o + l.val, hl⟩ d := by
    funext a
    fin_cases a
    · rfl
    · apply Fin.ext; show o + 1 * l.val = o + l.val; omega
    · apply Fin.ext; show 0 + 1 * d.val = d.val; omega
  rw [he]
  rfl

/-- One row of the three, stored as a row. -/
theorem row_put (x20 : Vec Ideal S3x1x2048 .f32) (n : Fin 3) (n' : ℕ) (hn : n.val = n') (k : ℕ) (i20 : ∀ a, ![n', 0, 0] a + ![1, 1, 2048] a ≤ S3x1x2048.size a)
    (io : ∀ a, ![k, 0] a + ![1, 2048] a ≤ S2x2048.size a) : ∀ x : (Rect.unit (s := S2x2048) ![k, 0] ![1, 2048] io).shape.Idx,
      k0_pay7 (F := Ideal) (View.ld (Val := Elt Ideal) x20 (Rect.unit (s := S3x1x2048) ![n', 0, 0] ![1, 1, 2048] i20)) x
        = (fun y : S2x2048.Idx => x20 (ix3 n 0 (y 1))) ((Rect.unit (s := S2x2048) ![k, 0] ![1, 2048] io).emb x) := fun x => by
  subst hn
  obtain ⟨a, j, rfl⟩ : ∃ (a : Fin 1) (j : Fin 2048), x = ix2 a j := ⟨x 0, x 1, by idx_ext⟩
  obtain rfl : a = 0 := Subsingleton.elim _ _
  pointwise [k0_pay7]
  refine congrArg x20 (funext fun a' => ?_)
  fin_cases a'
  · rfl
  · rfl
  · apply Fin.ext; show j.val = 0 + 1 * j.val; omega

/-- A place lies in row `k` exactly if its first coordinate is `k`. -/
theorem mem_put (k : Fin 2) (k' : ℕ) (hk : k.val = k') (io : ∀ a, ![k', 0] a + ![1, 2048] a ≤ S2x2048.size a) (y : S2x2048.Idx) :
    y ∈ (Rect.unit (s := S2x2048) ![k', 0] ![1, 2048] io).set ↔ (y 0).val = k.val := by
  subst hk
  rw [Rect.mem_set_unit]
  have h1 : (y 1).val < 2048 := (y 1).isLt
  constructor
  · intro h
    have a0 := h 0
    change k.val ≤ (y 0).val ∧ (y 0).val < k.val + 1 at a0
    omega
  · rintro h a
    fin_cases a
    · show k.val ≤ (y 0).val ∧ (y 0).val < k.val + 1; omega
    · show 0 ≤ (y 1).val ∧ (y 1).val < 0 + 2048; omega

section Suf

variable (c : Dev nD) (arg2 : Memref sig .tc .vmem S1x256x768 .fp8e4m3) (harg2 : arg2.IsWhole) (arg3 : Memref sig .tc .vmem S2x2048 .f32) (harg3 : arg3.IsWhole) (arg4 : Memref sig .tc .vmem S1x2048x768 .fp8e4m3) (harg4 : arg4.IsWhole) (arg5 : Memref sig .tc .vmem S2x2048 .f32) (harg5 : arg5.IsWhole) (arg6 : Memref sig .tc .vmem S2x2048 .i32) (harg6 : arg6.IsWhole) (arg7 : Memref sig .tc .smem S1x1 .f32) (harg7 : arg7.IsWhole) (arg8 : Memref sig .tc .smem S1x1 .f32) (harg8 : arg8.IsWhole) (arg9 : Memref sig .tc .vmem S2x2048 .f32) (harg9 : arg9.IsWhole) (arg10 : Memref sig .tc .vmem S1x256x768 .bf16) (harg10 : arg10.IsWhole) (arg11 : Memref sig .tc .vmem S1x2048x768 .bf16) (harg11 : arg11.IsWhole) (arg12 : Memref sig .tc .vmem S2x2048 .f32) (harg12 : arg12.IsWhole) (arg13 : Memref sig .tc .vmem S2x2048 .f32) (harg13 : arg13.IsWhole) (arg14 : Memref sig .tc .vmem S2048x768 .bf16) (harg14 : arg14.IsWhole) (arg15 : Memref sig .tc .vmem S768x2048 .f32) (harg15 : arg15.IsWhole) (arg16 : Memref sig .tc .vmem S256x2048 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .i32) (harg19 : arg19.IsWhole) (arg20 : Memref sig .tc .vmem S3x1x2048 .f32) (harg20 : arg20.IsWhole)
  (x9 : Vec Ideal S2x2048 .f32) (x11 : Vec Ideal S1x2048x768 .bf16) (x12 : Vec Ideal S2x2048 .f32) (x13 : Vec Ideal S2x2048 .f32) (x15 : Vec Ideal S768x2048 .f32) (x20 : Vec Ideal S3x1x2048 .f32)

/-- A row's piece, read back. -/
theorem put_read {arg : Memref sig .tc .vmem S2x2048 .f32} (harg : arg.IsWhole) (k : Fin 2) (n : Fin 3) (x : Vec Ideal S2x2048 .f32) (L : List (View.Piece (Elt Ideal) S2x2048 .f32))
    (p : View.PiecesOf (Val := Elt Ideal) (fun y : S2x2048.Idx => x20 (ix3 n 0 (y 1))) L) (hm : ∀ y : S2x2048.Idx, (y 0).val = k.val → ∃ p ∈ L, y ∈ p.1.set) (hn : ∀ y : S2x2048.Idx, ¬(y 0).val = k.val → ∀ p ∈ L, y ∉ p.1.set) :
    View.read (Elt Ideal) arg.view (arg.view.writes (Elt Ideal) (harg.unread x) L) = rowPut k n x20 x := by
  funext y
  unfold rowPut
  split
  · rename_i hy
    exact View.read_writes_apply_of_pieces _ _ (fun y : S2x2048.Idx => x20 (ix3 n 0 (y 1))) L p.mem y (hm y hy)
  · rename_i hy
    rw [View.read_writes_apply_of_forall_not_mem _ _ y _ (hn y hy), harg.read_unread]

/-- The run of the last stretch, its pieces any that are known to hold what is named. -/
theorem suf_wp_aux (k : Fin 2) (d11 : Vec Ideal S1x2048x768 .bf16) (L9 : List (View.Piece (Elt Ideal) S2x2048 .f32)) (L11 : List (View.Piece (Elt Ideal) S1x2048x768 .bf16)) (L12 : List (View.Piece (Elt Ideal) S2x2048 .f32)) (L13 : List (View.Piece (Elt Ideal) S2x2048 .f32)) (P Q : sProp 𝕄)
    (p11 : View.PiecesOf (Val := Elt Ideal) d11 L11) (c11 : ∀ y, ∃ p ∈ L11, y ∈ p.1.set)
    (p9 : View.PiecesOf (Val := Elt Ideal) (fun y : S2x2048.Idx => x20 (ix3 0 0 (y 1))) L9) (m9 : ∀ y : S2x2048.Idx, (y 0).val = k.val → ∃ p ∈ L9, y ∈ p.1.set) (n9 : ∀ y : S2x2048.Idx, ¬(y 0).val = k.val → ∀ p ∈ L9, y ∉ p.1.set) (p12 : View.PiecesOf (Val := Elt Ideal) (fun y : S2x2048.Idx => x20 (ix3 1 0 (y 1))) L12) (m12 : ∀ y : S2x2048.Idx, (y 0).val = k.val → ∃ p ∈ L12, y ∈ p.1.set) (n12 : ∀ y : S2x2048.Idx, ¬(y 0).val = k.val → ∀ p ∈ L12, y ∉ p.1.set) (p13 : View.PiecesOf (Val := Elt Ideal) (fun y : S2x2048.Idx => x20 (ix3 2 0 (y 1))) L13) (m13 : ∀ y : S2x2048.Idx, (y 0).val = k.val → ∃ p ∈ L13, y ∈ p.1.set) (n13 : ∀ y : S2x2048.Idx, ¬(y 0).val = k.val → ∀ p ∈ L13, y ∉ p.1.set)
    (run : iprop(owns (c : Thread nD τ) arg9 fullShare x9 ∗ owns (c : Thread nD τ) arg11 fullShare x11 ∗ owns (c : Thread nD τ) arg12 fullShare x12 ∗ owns (c : Thread nD τ) arg13 fullShare x13 ∗ owns (c : Thread nD τ) arg15 fullShare x15 ∗ owns (c : Thread nD τ) arg20 fullShare x20 ∗ (iprop((arg9.view.loc (c : Thread nD τ) ↦[arg9.view.set]{fullShare} arg9.view.writes (Elt Ideal) (harg9.unread x9) L9) ∗ (arg11.view.loc (c : Thread nD τ) ↦[arg11.view.set]{fullShare} arg11.view.writes (Elt Ideal) (harg11.unread x11) L11) ∗ (arg12.view.loc (c : Thread nD τ) ↦[arg12.view.set]{fullShare} arg12.view.writes (Elt Ideal) (harg12.unread x12) L12) ∗ (arg13.view.loc (c : Thread nD τ) ↦[arg13.view.set]{fullShare} arg13.view.writes (Elt Ideal) (harg13.unread x13) L13) ∗ owns (c : Thread nD τ) arg15 fullShare x15 ∗ owns (c : Thread nD τ) arg20 fullShare x20) -∗ Q)) ⊢ P) :
    iprop(owns (c : Thread nD τ) arg9 fullShare x9 ∗ owns (c : Thread nD τ) arg11 fullShare x11 ∗ owns (c : Thread nD τ) arg12 fullShare x12 ∗ owns (c : Thread nD τ) arg13 fullShare x13 ∗ owns (c : Thread nD τ) arg15 fullShare x15 ∗ owns (c : Thread nD τ) arg20 fullShare x20 ∗ (iprop(owns (c : Thread nD τ) arg9 fullShare (rowPut k 0 x20 x9) ∗ owns (c : Thread nD τ) arg11 fullShare d11 ∗ owns (c : Thread nD τ) arg12 fullShare (rowPut k 1 x20 x12) ∗ owns (c : Thread nD τ) arg13 fullShare (rowPut k 2 x20 x13) ∗ owns (c : Thread nD τ) arg15 fullShare x15 ∗ owns (c : Thread nD τ) arg20 fullShare x20) -∗ Q)) ⊢ P := by
  refine BIBase.Entails.trans ?_ run
  iintro ⟨H9, H11, H12, H13, H15, H20, Hk⟩
  isplitl [H9]; · iexact H9
  isplitl [H11]; · iexact H11
  isplitl [H12]; · iexact H12
  isplitl [H13]; · iexact H13
  isplitl [H15]; · iexact H15
  isplitl [H20]; · iexact H20
  iintro ⟨H9, H11, H12, H13, H15, H20⟩
  iapply Hk
  isplitl [H9]
  · unfold owns; iexists (arg9.view.writes (Elt Ideal) (harg9.unread x9) L9); isplitr
    · ipureintro
      exact put_read x20 harg9 k 0 x9 L9 p9 m9 n9
    · iexact H9
  isplitl [H11]
  · unfold owns; iexists (arg11.view.writes (Elt Ideal) (harg11.unread x11) L11); isplitr
    · ipureintro
      exact funext fun y => View.read_writes_apply_of_pieces _ _ _ _ p11.mem y (c11 y)
    · iexact H11
  isplitl [H12]
  · unfold owns; iexists (arg12.view.writes (Elt Ideal) (harg12.unread x12) L12); isplitr
    · ipureintro
      exact put_read x20 harg12 k 1 x12 L12 p12 m12 n12
    · iexact H12
  isplitl [H13]
  · unfold owns; iexists (arg13.view.writes (Elt Ideal) (harg13.unread x13) L13); isplitr
    · ipureintro
      exact put_read x20 harg13 k 2 x13 L13 p13 m13 n13
    · iexact H13
  isplitl [H15]; · iexact H15
  iexact H20

section C

variable (i : grid0.Coords) (v751 : FVec Ideal S1x1 .f32) (hc3 : cond0_3 i) (hc4 : cond0_4 i) (hc5 : ¬cond0_5 i)

theorem sufC_p11 : View.PiecesOf (Val := Elt Ideal) (dyArr x15 (v751 (ix2 0 0))) (sufC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).2.1 := by
  frame_open
  simp (disch := decide) only [↓ View.readCov_skip, ↓ View.readCov_cons_toLoadRect, ↓ View.readCov_fill]
  try frame_out
  refine ⟨?_, ?_, ?_, ?_, ?_, ?_, ?_, ?_, ?_, ?_, ?_, ?_, ?_, ?_, ?_, ?_, trivial⟩
  · exact dy_piece v751 x15 1920 (by decide) (by decide)
  · exact dy_piece v751 x15 1792 (by decide) (by decide)
  · exact dy_piece v751 x15 1664 (by decide) (by decide)
  · exact dy_piece v751 x15 1536 (by decide) (by decide)
  · exact dy_piece v751 x15 1408 (by decide) (by decide)
  · exact dy_piece v751 x15 1280 (by decide) (by decide)
  · exact dy_piece v751 x15 1152 (by decide) (by decide)
  · exact dy_piece v751 x15 1024 (by decide) (by decide)
  · exact dy_piece v751 x15 896 (by decide) (by decide)
  · exact dy_piece v751 x15 768 (by decide) (by decide)
  · exact dy_piece v751 x15 640 (by decide) (by decide)
  · exact dy_piece v751 x15 512 (by decide) (by decide)
  · exact dy_piece v751 x15 384 (by decide) (by decide)
  · exact dy_piece v751 x15 256 (by decide) (by decide)
  · exact dy_piece v751 x15 128 (by decide) (by decide)
  · exact dy_piece v751 x15 0 (by decide) (by decide)

theorem sufC_c11 (y : S1x2048x768.Idx) : ∃ p ∈ (sufC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).2.1, y ∈ p.1.set := View.cover_of_tiled (s := S1x2048x768) (Val := Elt Ideal) (e := .bf16) (sufC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).2.1 ![1, 128, 768] rfl y

theorem sufC_p9 : View.PiecesOf (Val := Elt Ideal) (fun y : S2x2048.Idx => x20 (ix3 0 0 (y 1))) (sufC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).1 := by
  frame_open
  simp (disch := decide) only [↓ View.readCov_skip, ↓ View.readCov_cons_toLoadRect, ↓ View.readCov_fill]
  try frame_out
  exact ⟨row_put x20 0 0 rfl 0 (by decide) (by decide), trivial⟩

theorem sufC_m9 (y : S2x2048.Idx) (hy : (y 0).val = (0 : Fin 2).val) : ∃ p ∈ (sufC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).1, y ∈ p.1.set := by
  frame_open
  exact ⟨_, List.mem_cons_self, (mem_put 0 0 rfl (by decide) y).mpr hy⟩

theorem sufC_n9 (y : S2x2048.Idx) (hy : ¬(y 0).val = (0 : Fin 2).val) : ∀ p ∈ (sufC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).1, y ∉ p.1.set := by
  frame_open
  intro p hp
  simp only [List.mem_cons, List.not_mem_nil, or_false] at hp
  subst hp
  exact fun h => hy ((mem_put 0 0 rfl (by decide) y).mp h)

theorem sufC_p12 : View.PiecesOf (Val := Elt Ideal) (fun y : S2x2048.Idx => x20 (ix3 1 0 (y 1))) (sufC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).2.2.1 := by
  frame_open
  simp (disch := decide) only [↓ View.readCov_skip, ↓ View.readCov_cons_toLoadRect, ↓ View.readCov_fill]
  try frame_out
  exact ⟨row_put x20 1 1 rfl 0 (by decide) (by decide), trivial⟩

theorem sufC_m12 (y : S2x2048.Idx) (hy : (y 0).val = (0 : Fin 2).val) : ∃ p ∈ (sufC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).2.2.1, y ∈ p.1.set := by
  frame_open
  exact ⟨_, List.mem_cons_self, (mem_put 0 0 rfl (by decide) y).mpr hy⟩

theorem sufC_n12 (y : S2x2048.Idx) (hy : ¬(y 0).val = (0 : Fin 2).val) : ∀ p ∈ (sufC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).2.2.1, y ∉ p.1.set := by
  frame_open
  intro p hp
  simp only [List.mem_cons, List.not_mem_nil, or_false] at hp
  subst hp
  exact fun h => hy ((mem_put 0 0 rfl (by decide) y).mp h)

theorem sufC_p13 : View.PiecesOf (Val := Elt Ideal) (fun y : S2x2048.Idx => x20 (ix3 2 0 (y 1))) (sufC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).2.2.2.1 := by
  frame_open
  simp (disch := decide) only [↓ View.readCov_skip, ↓ View.readCov_cons_toLoadRect, ↓ View.readCov_fill]
  try frame_out
  exact ⟨row_put x20 2 2 rfl 0 (by decide) (by decide), trivial⟩

theorem sufC_m13 (y : S2x2048.Idx) (hy : (y 0).val = (0 : Fin 2).val) : ∃ p ∈ (sufC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).2.2.2.1, y ∈ p.1.set := by
  frame_open
  exact ⟨_, List.mem_cons_self, (mem_put 0 0 rfl (by decide) y).mpr hy⟩

theorem sufC_n13 (y : S2x2048.Idx) (hy : ¬(y 0).val = (0 : Fin 2).val) : ∀ p ∈ (sufC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).2.2.2.1, y ∉ p.1.set := by
  frame_open
  intro p hp
  simp only [List.mem_cons, List.not_mem_nil, or_false] at hp
  subst hp
  exact fun h => hy ((mem_put 0 0 rfl (by decide) y).mp h)

include hc3 hc4 hc5 in
/-- The last stretch at the last point of batch 0, with what each buffer holds afterwards. -/
theorem sufC_wp (E : Set ℕ) (Q : PUnit → sProp 𝕄) :
    iprop(owns (c : Thread nD τ) arg9 fullShare x9 ∗ owns (c : Thread nD τ) arg11 fullShare x11 ∗ owns (c : Thread nD τ) arg12 fullShare x12 ∗ owns (c : Thread nD τ) arg13 fullShare x13 ∗ owns (c : Thread nD τ) arg15 fullShare x15 ∗ owns (c : Thread nD τ) arg20 fullShare x20 ∗ (iprop(owns (c : Thread nD τ) arg9 fullShare (rowPut 0 0 x20 x9) ∗ owns (c : Thread nD τ) arg11 fullShare (dyArr x15 (v751 (ix2 0 0))) ∗ owns (c : Thread nD τ) arg12 fullShare (rowPut 0 1 x20 x12) ∗ owns (c : Thread nD τ) arg13 fullShare (rowPut 0 2 x20 x13) ∗ owns (c : Thread nD τ) arg15 fullShare x15 ∗ owns (c : Thread nD τ) arg20 fullShare x20) -∗ Q ⟨⟩))
      ⊢ wp frame (wpE (defs₀ (F := Ideal)) Variants.none c none) E (sufProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751) Q :=
  suf_wp_aux c arg9 harg9 arg11 harg11 arg12 harg12 arg13 harg13 arg15 arg20 x9 x11 x12 x13 x15 x20 0 (dyArr x15 (v751 (ix2 0 0))) (sufC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).1 (sufC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).2.1 (sufC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).2.2.1 (sufC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).2.2.2.1 _ _
    (sufC_p11 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x9 x11 x12 x13 x15 x20 i v751 hc3 hc4 hc5) (sufC_c11 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x9 x11 x12 x13 x15 x20 i v751 hc3 hc4 hc5)
    (sufC_p9 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x9 x11 x12 x13 x15 x20 i v751 hc3 hc4 hc5) (sufC_m9 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x9 x11 x12 x13 x15 x20 i v751 hc3 hc4 hc5) (sufC_n9 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x9 x11 x12 x13 x15 x20 i v751 hc3 hc4 hc5) (sufC_p12 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x9 x11 x12 x13 x15 x20 i v751 hc3 hc4 hc5) (sufC_m12 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x9 x11 x12 x13 x15 x20 i v751 hc3 hc4 hc5) (sufC_n12 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x9 x11 x12 x13 x15 x20 i v751 hc3 hc4 hc5) (sufC_p13 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x9 x11 x12 x13 x15 x20 i v751 hc3 hc4 hc5) (sufC_m13 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x9 x11 x12 x13 x15 x20 i v751 hc3 hc4 hc5) (sufC_n13 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x9 x11 x12 x13 x15 x20 i v751 hc3 hc4 hc5) ((sufC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).2.2.2.2 E Q)

end C

section E

variable (i : grid0.Coords) (v751 : FVec Ideal S1x1 .f32) (hc3 : cond0_3 i) (hc4 : ¬cond0_4 i) (hc5 : cond0_5 i)

theorem sufE_p11 : View.PiecesOf (Val := Elt Ideal) (dyArr x15 (v751 (ix2 0 0))) (sufE (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).2.1 := by
  frame_open
  simp (disch := decide) only [↓ View.readCov_skip, ↓ View.readCov_cons_toLoadRect, ↓ View.readCov_fill]
  try frame_out
  refine ⟨?_, ?_, ?_, ?_, ?_, ?_, ?_, ?_, ?_, ?_, ?_, ?_, ?_, ?_, ?_, ?_, trivial⟩
  · exact dy_piece v751 x15 1920 (by decide) (by decide)
  · exact dy_piece v751 x15 1792 (by decide) (by decide)
  · exact dy_piece v751 x15 1664 (by decide) (by decide)
  · exact dy_piece v751 x15 1536 (by decide) (by decide)
  · exact dy_piece v751 x15 1408 (by decide) (by decide)
  · exact dy_piece v751 x15 1280 (by decide) (by decide)
  · exact dy_piece v751 x15 1152 (by decide) (by decide)
  · exact dy_piece v751 x15 1024 (by decide) (by decide)
  · exact dy_piece v751 x15 896 (by decide) (by decide)
  · exact dy_piece v751 x15 768 (by decide) (by decide)
  · exact dy_piece v751 x15 640 (by decide) (by decide)
  · exact dy_piece v751 x15 512 (by decide) (by decide)
  · exact dy_piece v751 x15 384 (by decide) (by decide)
  · exact dy_piece v751 x15 256 (by decide) (by decide)
  · exact dy_piece v751 x15 128 (by decide) (by decide)
  · exact dy_piece v751 x15 0 (by decide) (by decide)

theorem sufE_c11 (y : S1x2048x768.Idx) : ∃ p ∈ (sufE (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).2.1, y ∈ p.1.set := View.cover_of_tiled (s := S1x2048x768) (Val := Elt Ideal) (e := .bf16) (sufE (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).2.1 ![1, 128, 768] rfl y

theorem sufE_p9 : View.PiecesOf (Val := Elt Ideal) (fun y : S2x2048.Idx => x20 (ix3 0 0 (y 1))) (sufE (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).1 := by
  frame_open
  simp (disch := decide) only [↓ View.readCov_skip, ↓ View.readCov_cons_toLoadRect, ↓ View.readCov_fill]
  try frame_out
  exact ⟨row_put x20 0 0 rfl 1 (by decide) (by decide), trivial⟩

theorem sufE_m9 (y : S2x2048.Idx) (hy : (y 0).val = (1 : Fin 2).val) : ∃ p ∈ (sufE (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).1, y ∈ p.1.set := by
  frame_open
  exact ⟨_, List.mem_cons_self, (mem_put 1 1 rfl (by decide) y).mpr hy⟩

theorem sufE_n9 (y : S2x2048.Idx) (hy : ¬(y 0).val = (1 : Fin 2).val) : ∀ p ∈ (sufE (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).1, y ∉ p.1.set := by
  frame_open
  intro p hp
  simp only [List.mem_cons, List.not_mem_nil, or_false] at hp
  subst hp
  exact fun h => hy ((mem_put 1 1 rfl (by decide) y).mp h)

theorem sufE_p12 : View.PiecesOf (Val := Elt Ideal) (fun y : S2x2048.Idx => x20 (ix3 1 0 (y 1))) (sufE (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).2.2.1 := by
  frame_open
  simp (disch := decide) only [↓ View.readCov_skip, ↓ View.readCov_cons_toLoadRect, ↓ View.readCov_fill]
  try frame_out
  exact ⟨row_put x20 1 1 rfl 1 (by decide) (by decide), trivial⟩

theorem sufE_m12 (y : S2x2048.Idx) (hy : (y 0).val = (1 : Fin 2).val) : ∃ p ∈ (sufE (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).2.2.1, y ∈ p.1.set := by
  frame_open
  exact ⟨_, List.mem_cons_self, (mem_put 1 1 rfl (by decide) y).mpr hy⟩

theorem sufE_n12 (y : S2x2048.Idx) (hy : ¬(y 0).val = (1 : Fin 2).val) : ∀ p ∈ (sufE (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).2.2.1, y ∉ p.1.set := by
  frame_open
  intro p hp
  simp only [List.mem_cons, List.not_mem_nil, or_false] at hp
  subst hp
  exact fun h => hy ((mem_put 1 1 rfl (by decide) y).mp h)

theorem sufE_p13 : View.PiecesOf (Val := Elt Ideal) (fun y : S2x2048.Idx => x20 (ix3 2 0 (y 1))) (sufE (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).2.2.2.1 := by
  frame_open
  simp (disch := decide) only [↓ View.readCov_skip, ↓ View.readCov_cons_toLoadRect, ↓ View.readCov_fill]
  try frame_out
  exact ⟨row_put x20 2 2 rfl 1 (by decide) (by decide), trivial⟩

theorem sufE_m13 (y : S2x2048.Idx) (hy : (y 0).val = (1 : Fin 2).val) : ∃ p ∈ (sufE (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).2.2.2.1, y ∈ p.1.set := by
  frame_open
  exact ⟨_, List.mem_cons_self, (mem_put 1 1 rfl (by decide) y).mpr hy⟩

theorem sufE_n13 (y : S2x2048.Idx) (hy : ¬(y 0).val = (1 : Fin 2).val) : ∀ p ∈ (sufE (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).2.2.2.1, y ∉ p.1.set := by
  frame_open
  intro p hp
  simp only [List.mem_cons, List.not_mem_nil, or_false] at hp
  subst hp
  exact fun h => hy ((mem_put 1 1 rfl (by decide) y).mp h)

include hc3 hc4 hc5 in
/-- The last stretch at the last point of batch 1, with what each buffer holds afterwards. -/
theorem sufE_wp (E : Set ℕ) (Q : PUnit → sProp 𝕄) :
    iprop(owns (c : Thread nD τ) arg9 fullShare x9 ∗ owns (c : Thread nD τ) arg11 fullShare x11 ∗ owns (c : Thread nD τ) arg12 fullShare x12 ∗ owns (c : Thread nD τ) arg13 fullShare x13 ∗ owns (c : Thread nD τ) arg15 fullShare x15 ∗ owns (c : Thread nD τ) arg20 fullShare x20 ∗ (iprop(owns (c : Thread nD τ) arg9 fullShare (rowPut 1 0 x20 x9) ∗ owns (c : Thread nD τ) arg11 fullShare (dyArr x15 (v751 (ix2 0 0))) ∗ owns (c : Thread nD τ) arg12 fullShare (rowPut 1 1 x20 x12) ∗ owns (c : Thread nD τ) arg13 fullShare (rowPut 1 2 x20 x13) ∗ owns (c : Thread nD τ) arg15 fullShare x15 ∗ owns (c : Thread nD τ) arg20 fullShare x20) -∗ Q ⟨⟩))
      ⊢ wp frame (wpE (defs₀ (F := Ideal)) Variants.none c none) E (sufProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751) Q :=
  suf_wp_aux c arg9 harg9 arg11 harg11 arg12 harg12 arg13 harg13 arg15 arg20 x9 x11 x12 x13 x15 x20 1 (dyArr x15 (v751 (ix2 0 0))) (sufE (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).1 (sufE (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).2.1 (sufE (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).2.2.1 (sufE (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).2.2.2.1 _ _
    (sufE_p11 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x9 x11 x12 x13 x15 x20 i v751 hc3 hc4 hc5) (sufE_c11 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x9 x11 x12 x13 x15 x20 i v751 hc3 hc4 hc5)
    (sufE_p9 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x9 x11 x12 x13 x15 x20 i v751 hc3 hc4 hc5) (sufE_m9 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x9 x11 x12 x13 x15 x20 i v751 hc3 hc4 hc5) (sufE_n9 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x9 x11 x12 x13 x15 x20 i v751 hc3 hc4 hc5) (sufE_p12 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x9 x11 x12 x13 x15 x20 i v751 hc3 hc4 hc5) (sufE_m12 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x9 x11 x12 x13 x15 x20 i v751 hc3 hc4 hc5) (sufE_n12 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x9 x11 x12 x13 x15 x20 i v751 hc3 hc4 hc5) (sufE_p13 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x9 x11 x12 x13 x15 x20 i v751 hc3 hc4 hc5) (sufE_m13 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x9 x11 x12 x13 x15 x20 i v751 hc3 hc4 hc5) (sufE_n13 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x9 x11 x12 x13 x15 x20 i v751 hc3 hc4 hc5) ((sufE (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751 hc3 hc4 hc5 x9 x11 x12 x13 x15 x20).2.2.2.2 E Q)

end E

section None'

variable (i : grid0.Coords) (v751 : FVec Ideal S1x1 .f32) (hc3 : ¬cond0_3 i)

include hc3 in
/-- The last stretch at any other point does nothing. -/
theorem sufB_wp (E : Set ℕ) (Q : PUnit → sProp 𝕄) :
    Q ⟨⟩ ⊢ wp frame (wpE (defs₀ (F := Ideal)) Variants.none c none) E (sufProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751) Q := by
  unfold sufProg
  iintro H
  sl_exec (disch := sl_exact hc3)
  sl_step
  iexact H

end None'

end Suf

end Cert.KernelIdeal.Hand

end
-- ==== Proof.Hand.Point.lean ====
/- One point of the grid: what the body finds in its buffers and scratch, and what it leaves, named by the inputs. -/
module

public import proofs.«01_k».proof.Proof.Hand.SufVal

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The kernel's inputs, entry by entry. -/
structure In where
  /-- the codes of `x` -/
  x : Fin 2 → Fin 2048 → Fin 768 → EReal
  /-- the codes of `y` -/
  y : Fin 2 → Fin 2048 → Fin 768 → EReal
  /-- the scales of the rows of `x` -/
  xs : Fin 2 → Fin 2048 → EReal
  /-- the scales of the rows of `y` -/
  ys : Fin 2 → Fin 2048 → EReal
  /-- the ids -/
  ids : Fin 2 → Fin 2048 → BitVec 32
  /-- the log of the temperature -/
  tp : EReal
  /-- the bias -/
  b : EReal

variable (I : In)

/-- What the body computes from at block `q` of batch `k`. -/
def blk (k : Fin 2) (q : ℕ) : Blk where
  raw r j := ∑ d : Fin 768, I.x k (jr q r) d * I.y k j d
  xs r := I.xs k (jr q r) * (Ideal.exp I.tp * Named.named (F := Ideal) κ "log2e" (φ := .f32) 0x3FB8AA3B#32)
  ys j := I.ys k j
  idx r := I.ids k (jr q r)
  idy j := I.ids k j
  b2 := I.b * Named.named (F := Ideal) κ "log2e" (φ := .f32) 0x3FB8AA3B#32

/-- The scaled codes of `y` of a batch. -/
def ybS (k : Fin 2) : Vec Ideal S2048x768 .bf16 := fun y => I.y k (y 0) (y 1) * I.ys k (y 0)
/-- The sums of the gradient in `y` of a batch over its first `n` blocks of rows, transposed. -/
def dyS (k : Fin 2) : ℕ → Vec Ideal S768x2048 .f32
  | 0 => zArr
  | n + 1 => fun y => dyS k n y + ∑ r : Fin 256, (I.x k (jr n r) (y 0) * I.xs k (jr n r)) * (blk I k n).g r (y 1)
/-- The scales of the rows of `x` of a batch. -/
def xsS (k : Fin 2) : Vec Ideal S1x2048 .f32 := fun y => I.xs k (y 1)
/-- The scales of the rows of `y` of a batch. -/
def ysS (k : Fin 2) : Vec Ideal S1x2048 .f32 := fun y => I.ys k (y 1)
/-- The ids of a batch. -/
def idS (k : Fin 2) : Vec Ideal S1x2048 .i32 := fun y => I.ids k (y 1)
/-- One entry of the three rows of a batch: the loss, and its derivatives in the temperature and the bias. -/
def rowS (k : Fin 2) (n : Fin 3) (s : Fin 2048) : EReal := rowsArr (blk I k (s.val / 256)) (s.val / 256) (ix3 n 0 s)
/-- The factor of both gradients. -/
def tS : EReal := Ideal.exp I.tp * Ideal.ofBits .f32 0x3A000000#32
/-- The gradient in `x` at a block of rows. -/
def dxS (k : Fin 2) (q : ℕ) : Vec Ideal S1x256x768 .bf16 := fun y => (∑ j : Fin 2048, (blk I k q).g (y 1) j * (I.y k j (y 2) * I.ys k j)) * tS I
/-- The gradient in `y` of a batch. -/
def dyF (k : Fin 2) : Vec Ideal S1x2048x768 .bf16 := fun y => dyS I k 8 (ix2 (y 2) (y 1)) * tS I
/-- Row `k` of a two-row array replaced by a row of the batch. -/
def putS (k : Fin 2) (n : Fin 3) (x : Vec Ideal S2x2048 .f32) : Vec Ideal S2x2048 .f32 := fun y => if (y 0).val = k.val then rowS I k n (y 1) else x y
/-- The three rows hold what they should in their first `m` columns. -/
def RowsOk (k : Fin 2) (m : ℕ) (d : Vec Ideal S3x1x2048 .f32) : Prop := ∀ (n : Fin 3) (s : Fin 2048), s.val < m → d (ix3 n 0 s) = rowS I k n s

/-- The windows' blocks at block `q` of batch `k`, by the inputs. -/
structure At (k : Fin 2) (q : ℕ) (x2 : Vec Ideal S1x256x768 .fp8e4m3) (x3 : Vec Ideal S2x2048 .f32) (x4 : Vec Ideal S1x2048x768 .fp8e4m3) (x5 : Vec Ideal S2x2048 .f32)
    (x6 : Vec Ideal S2x2048 .i32) (x7 : Vec Ideal S1x1 .f32) (x8 : Vec Ideal S1x1 .f32) : Prop where
  x : ∀ (r : Fin 256) (d : Fin 768), x2 (ix3 0 r d) = I.x k (jr q r) d
  y : ∀ (j : Fin 2048) (d : Fin 768), x4 (ix3 0 j d) = I.y k j d
  xs : ∀ j : Fin 2048, x3 (ix2 k j) = I.xs k j
  ys : ∀ j : Fin 2048, x5 (ix2 k j) = I.ys k j
  ids : ∀ j : Fin 2048, x6 (ix2 k j) = I.ids k j
  tp : x7 (ix2 0 0) = I.tp
  b : x8 (ix2 0 0) = I.b

section At

variable {I} {k : Fin 2} {q : ℕ} {x2 : Vec Ideal S1x256x768 .fp8e4m3} {x3 : Vec Ideal S2x2048 .f32} {x4 : Vec Ideal S1x2048x768 .fp8e4m3} {x5 : Vec Ideal S2x2048 .f32}
  {x6 : Vec Ideal S2x2048 .i32} {x7 : Vec Ideal S1x1 .f32} {x8 : Vec Ideal S1x1 .f32} (h : At I k q x2 x3 x4 x5 x6 x7 x8)
include h

theorem At.row3 : rowOf x3 k = xsS I k := funext fun y => h.xs _
theorem At.row5 : rowOf x5 k = ysS I k := funext fun y => h.ys _
theorem At.row6 : rowOf x6 k = idS I k := funext fun y => h.ids _
theorem At.yb : ybArr x4 (ysS I k) = ybS I k := funext fun y => congrArg (· * I.ys k (y 0)) (h.y (y 0) (y 1))

/-- What the column loop computes from is the block's. -/
theorem At.holds {V : (Σ' (arg0 : BitVec 32) (arg1 : BitVec 32) (v2 : FVec Ideal S1x128 .f32) (v4 : Ideal .f32) (v9 : BitVec 32) (v31 : IVec S256x128 32) (v35 : FVec Ideal S256x128 .f32) (v36 : FVec Ideal S256x128 .bf16), FVec Ideal S128x256 .bf16)} (hV : VOk q x2 (xsS I k) (idS I k) (x7 (ix2 0 0)) (x8 (ix2 0 0)) V) :
    Holds (blk I k q) V.2.2.2.1 V.2.2.2.2.2.1 V.2.2.2.2.2.2.1 x2 x4 (ysS I k) (idS I k) where
  raw r j := by
    show _ = (∑ d : Fin 768, I.x k (jr q r) d * I.y k j d : EReal)
    exact Finset.sum_congr rfl fun d _ => by rw [h.x, h.y]
  xs r l := by rw [hV.xs, h.tp]; rfl
  ys j := rfl
  idx r l := hV.idx r l
  idy j := rfl
  b2 := by rw [hV.b2, h.b]; rfl

theorem At.dx {V : (Σ' (arg0 : BitVec 32) (arg1 : BitVec 32) (v2 : FVec Ideal S1x128 .f32) (v4 : Ideal .f32) (v9 : BitVec 32) (v31 : IVec S256x128 32) (v35 : FVec Ideal S256x128 .f32) (v36 : FVec Ideal S256x128 .bf16), FVec Ideal S128x256 .bf16)} (hV : VOk q x2 (xsS I k) (idS I k) (x7 (ix2 0 0)) (x8 (ix2 0 0)) V) : dxArr (blk I k q) V.2.2.1 (ybS I k) = dxS I k q := by
  funext y
  unfold dxArr dxS tS
  rw [hV.t, h.tp]
  rfl

theorem At.dyt : dytArr (blk I k q) (fun r => I.xs k (jr q r)) x2 (dyS I k q) = dyS I k (q + 1) := by
  funext y
  show _ + (∑ r : Fin 256, x2 (ix3 0 r (y 0)) * _ * _ : EReal) = _ + (∑ r : Fin 256, I.x k (jr q r) (y 0) * _ * _ : EReal)
  exact congrArg _ (Finset.sum_congr rfl fun r _ => congrArg (· * _ * _) (h.x r (y 0)))

end At

theorem rowsIn_ok {k : Fin 2} {q : ℕ} {d : Vec Ideal S3x1x2048 .f32} (hd : RowsOk I k (256 * q) d) : RowsOk I k (256 * (q + 1)) (rowsIn (blk I k q) q d) := by
  intro n s hs
  unfold rowsIn
  by_cases h : 256 * q ≤ s.val
  · rw [if_pos ⟨h, by show s.val < _; omega⟩]
    unfold rowS
    rw [show s.val / 256 = q by omega]
  · rw [if_neg (fun h' => h h'.1)]
    exact hd n s (by omega)

theorem rowPut_eq {k : Fin 2} {d : Vec Ideal S3x1x2048 .f32} (hd : RowsOk I k 2048 d) (n : Fin 3) (x : Vec Ideal S2x2048 .f32) : rowPut k n d x = putS I k n x := by
  funext y
  unfold rowPut putS
  rw [hd n (y 1) (y 1).isLt]

theorem rowsOk_zero (k : Fin 2) (d : Vec Ideal S3x1x2048 .f32) : RowsOk I k 0 d := fun n s hs => absurd hs (Nat.not_lt_zero _)

/-- The batch of a point. -/
def kt (t : Fin cfg0.N) : Fin 2 := ⟨t.val / 8, by have := t.isLt; have : cfg0.N = 16 := N_0; omega⟩

theorem coord_q (t : Fin cfg0.N) : ((grid0.coords t) 1).val = t.val % 8 := by
  have e1 : (grid0.coords t 1).val = t.val / 1 % 8 := Pipeline.Grid.coords_val t 1 (by decide) rfl
  rw [e1, Nat.div_one]

section Point

variable (c : Dev nD) (t : Fin cfg0.N) (arg2 : Memref sig .tc .vmem S1x256x768 .fp8e4m3) (harg2 : arg2.IsWhole) (arg3 : Memref sig .tc .vmem S2x2048 .f32) (harg3 : arg3.IsWhole) (arg4 : Memref sig .tc .vmem S1x2048x768 .fp8e4m3) (harg4 : arg4.IsWhole) (arg5 : Memref sig .tc .vmem S2x2048 .f32) (harg5 : arg5.IsWhole) (arg6 : Memref sig .tc .vmem S2x2048 .i32) (harg6 : arg6.IsWhole) (arg7 : Memref sig .tc .smem S1x1 .f32) (harg7 : arg7.IsWhole) (arg8 : Memref sig .tc .smem S1x1 .f32) (harg8 : arg8.IsWhole) (arg9 : Memref sig .tc .vmem S2x2048 .f32) (harg9 : arg9.IsWhole) (arg10 : Memref sig .tc .vmem S1x256x768 .bf16) (harg10 : arg10.IsWhole) (arg11 : Memref sig .tc .vmem S1x2048x768 .bf16) (harg11 : arg11.IsWhole) (arg12 : Memref sig .tc .vmem S2x2048 .f32) (harg12 : arg12.IsWhole) (arg13 : Memref sig .tc .vmem S2x2048 .f32) (harg13 : arg13.IsWhole) (arg14 : Memref sig .tc .vmem S2048x768 .bf16) (harg14 : arg14.IsWhole) (arg15 : Memref sig .tc .vmem S768x2048 .f32) (harg15 : arg15.IsWhole) (arg16 : Memref sig .tc .vmem S256x2048 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .i32) (harg19 : arg19.IsWhole) (arg20 : Memref sig .tc .vmem S3x1x2048 .f32) (harg20 : arg20.IsWhole)
  (x2 : Vec Ideal S1x256x768 .fp8e4m3) (x3 : Vec Ideal S2x2048 .f32) (x4 : Vec Ideal S1x2048x768 .fp8e4m3) (x5 : Vec Ideal S2x2048 .f32) (x6 : Vec Ideal S2x2048 .i32) (x7 : Vec Ideal S1x1 .f32) (x8 : Vec Ideal S1x1 .f32)

/-- The scratch before the point: at the first point of a batch anything, otherwise what the point before left. -/
def ScrIn : sProp 𝕄 :=
  if t.val % 8 = 0 then iprop((∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d))
  else iprop(owns (c : Thread nD τ) arg14 fullShare (ybS I (kt t)) ∗ owns (c : Thread nD τ) arg15 fullShare (dyS I (kt t) (t.val % 8)) ∗ (∃ d, owns (c : Thread nD τ) arg16 fullShare d) ∗ owns (c : Thread nD τ) arg17 fullShare (xsS I (kt t)) ∗ owns (c : Thread nD τ) arg18 fullShare (ysS I (kt t)) ∗ owns (c : Thread nD τ) arg19 fullShare (idS I (kt t)) ∗ (∃ d, ⌜RowsOk I (kt t) (256 * (t.val % 8)) d⌝ ∗ owns (c : Thread nD τ) arg20 fullShare d))

/-- The scratch after the point. -/
def ScrOut : sProp 𝕄 := iprop(owns (c : Thread nD τ) arg14 fullShare (ybS I (kt t)) ∗ owns (c : Thread nD τ) arg15 fullShare (dyS I (kt t) (t.val % 8 + 1)) ∗ (∃ d, owns (c : Thread nD τ) arg16 fullShare d) ∗ owns (c : Thread nD τ) arg17 fullShare (xsS I (kt t)) ∗ owns (c : Thread nD τ) arg18 fullShare (ysS I (kt t)) ∗ owns (c : Thread nD τ) arg19 fullShare (idS I (kt t)) ∗ (∃ d, ⌜RowsOk I (kt t) (256 * (t.val % 8 + 1)) d⌝ ∗ owns (c : Thread nD τ) arg20 fullShare d))

/-- The first stretch: the values the column loop starts from, and the scratch it reads. -/
theorem pre_pt (h : At I (kt t) (t.val % 8) x2 x3 x4 x5 x6 x7 x8) (E : Set ℕ) (kk : (Σ' (arg0 : BitVec 32) (arg1 : BitVec 32) (v2 : FVec Ideal S1x128 .f32) (v4 : Ideal .f32) (v9 : BitVec 32) (v31 : IVec S256x128 32) (v35 : FVec Ideal S256x128 .f32) (v36 : FVec Ideal S256x128 .bf16), FVec Ideal S128x256 .bf16) → Prog (TpuEff nD τ sig (Elt Ideal) Λ₀ .tc) PUnit) (Q : PUnit → sProp 𝕄) :
    ∃ V : (Σ' (arg0 : BitVec 32) (arg1 : BitVec 32) (v2 : FVec Ideal S1x128 .f32) (v4 : Ideal .f32) (v9 : BitVec 32) (v31 : IVec S256x128 32) (v35 : FVec Ideal S256x128 .f32) (v36 : FVec Ideal S256x128 .bf16), FVec Ideal S128x256 .bf16), VOk (t.val % 8) x2 (xsS I (kt t)) (idS I (kt t)) (x7 (ix2 0 0)) (x8 (ix2 0 0)) V ∧
      (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ ScrIn I c t arg14 arg15 arg16 arg17 arg18 arg19 arg20
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg14 fullShare (ybS I (kt t)) ∗ owns (c : Thread nD τ) arg15 fullShare (dyS I (kt t) (t.val % 8)) ∗ owns (c : Thread nD τ) arg17 fullShare (xsS I (kt t)) ∗ owns (c : Thread nD τ) arg18 fullShare (ysS I (kt t)) ∗ owns (c : Thread nD τ) arg19 fullShare (idS I (kt t)) ∗ (∃ d, owns (c : Thread nD τ) arg16 fullShare d) ∗ (∃ d, ⌜RowsOk I (kt t) (256 * (t.val % 8)) d⌝ ∗ owns (c : Thread nD τ) arg20 fullShare d))
            -∗ wp frame (wpE (defs₀ (F := Ideal)) Variants.none c none) E (kk V) Q))
        ⊢ wp frame (wpE (defs₀ (F := Ideal)) Variants.none c none) E (k0_part6 (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 >>= kk) Q) := by
  have hN : t.val < 16 := lt_of_lt_of_eq t.isLt (show cfg0.N = 16 from N_0)
  by_cases h0 : t.val % 8 = 0
  · have h1n : t.val < 8 ↔ ¬ 8 ≤ t.val := by omega
    by_cases h1 : t.val < 8
    · replace h1n := h1n.mp h1
      have hk : kt t = 0 := Fin.ext (by show t.val / 8 = 0; omega)
      obtain ⟨V, hV, hw⟩ := preA_wp c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 (grid0.coords t) ((hcond0_0 t).mpr h0) ((hcond0_1 t).mpr h1) (fun h => h1n ((hcond0_2 t).mp h)) E kk Q
      rw [coord_q t, ← hk, h.row3, h.row6] at hV
      rw [← hk, h.row3, h.row5, h.row6, h.yb] at hw
      refine ⟨V, hV, BIBase.Entails.trans ?_ hw⟩
      unfold ScrIn
      rw [if_pos h0]
      iintro ⟨H2, H3, H4, H5, H6, H7, H8, ⟨H14, H15, H16, H17, H18, H19, H20⟩, Hk⟩
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H14]; · iexact H14
      isplitl [H15]; · iexact H15
      isplitl [H17]; · iexact H17
      isplitl [H18]; · iexact H18
      isplitl [H19]; · iexact H19
      iintro ⟨H2, H3, H4, H5, H6, H7, H8, H14, H15, H17, H18, H19⟩
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H14]; · iexact H14
      isplitl [H15]; · rw [h0]; iexact H15
      isplitl [H17]; · iexact H17
      isplitl [H18]; · iexact H18
      isplitl [H19]; · iexact H19
      isplitl [H16]; · iexact H16
      icases H20 with ⟨%d20, H20⟩
      iexists d20; isplitr
      · ipureintro; rw [h0]; exact rowsOk_zero I _ d20
      · iexact H20
    · replace h1n : 8 ≤ t.val := by omega
      have hk : kt t = 1 := Fin.ext (by show t.val / 8 = 1; omega)
      obtain ⟨V, hV, hw⟩ := preD_wp c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 (grid0.coords t) ((hcond0_0 t).mpr h0) (fun h => h1 ((hcond0_1 t).mp h)) ((hcond0_2 t).mpr h1n) E kk Q
      rw [coord_q t, ← hk, h.row3, h.row6] at hV
      rw [← hk, h.row3, h.row5, h.row6, h.yb] at hw
      refine ⟨V, hV, BIBase.Entails.trans ?_ hw⟩
      unfold ScrIn
      rw [if_pos h0]
      iintro ⟨H2, H3, H4, H5, H6, H7, H8, ⟨H14, H15, H16, H17, H18, H19, H20⟩, Hk⟩
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H14]; · iexact H14
      isplitl [H15]; · iexact H15
      isplitl [H17]; · iexact H17
      isplitl [H18]; · iexact H18
      isplitl [H19]; · iexact H19
      iintro ⟨H2, H3, H4, H5, H6, H7, H8, H14, H15, H17, H18, H19⟩
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H14]; · iexact H14
      isplitl [H15]; · rw [h0]; iexact H15
      isplitl [H17]; · iexact H17
      isplitl [H18]; · iexact H18
      isplitl [H19]; · iexact H19
      isplitl [H16]; · iexact H16
      icases H20 with ⟨%d20, H20⟩
      iexists d20; isplitr
      · ipureintro; rw [h0]; exact rowsOk_zero I _ d20
      · iexact H20
  · obtain ⟨V, hV, hw⟩ := preB_wp c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x7 x8 (xsS I (kt t)) (idS I (kt t)) (grid0.coords t) (fun h => h0 ((hcond0_0 t).mp h)) E kk Q
    rw [coord_q t] at hV
    refine ⟨V, hV, BIBase.Entails.trans ?_ hw⟩
    unfold ScrIn
    rw [if_neg h0]
    iintro ⟨H2, H3, H4, H5, H6, H7, H8, ⟨H14, H15, H16, H17, H18, H19, H20⟩, Hk⟩
    isplitl [H2]; · iexact H2
    isplitl [H7]; · iexact H7
    isplitl [H8]; · iexact H8
    isplitl [H17]; · iexact H17
    isplitl [H19]; · iexact H19
    iintro ⟨H2, H7, H8, H17, H19⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H14]; · iexact H14
    isplitl [H15]; · iexact H15
    isplitl [H17]; · iexact H17
    isplitl [H18]; · iexact H18
    isplitl [H19]; · iexact H19
    isplitl [H16]; · iexact H16
    iexact H20

/-- The last stretch: at the last point of a batch the batch's results are stored. -/
theorem suf_pt (x9 : Vec Ideal S2x2048 .f32) (x11 : Vec Ideal S1x2048x768 .bf16) (x12 : Vec Ideal S2x2048 .f32) (x13 : Vec Ideal S2x2048 .f32) (x20 : Vec Ideal S3x1x2048 .f32) (v751 : FVec Ideal S1x1 .f32) (hv : v751 (ix2 0 0) = tS I) (h20 : RowsOk I (kt t) (256 * (t.val % 8 + 1)) x20) (E : Set ℕ) (Q : PUnit → sProp 𝕄) :
    iprop(owns (c : Thread nD τ) arg9 fullShare x9 ∗ owns (c : Thread nD τ) arg11 fullShare x11 ∗ owns (c : Thread nD τ) arg12 fullShare x12 ∗ owns (c : Thread nD τ) arg13 fullShare x13 ∗ owns (c : Thread nD τ) arg15 fullShare (dyS I (kt t) (t.val % 8 + 1)) ∗ owns (c : Thread nD τ) arg20 fullShare x20
      ∗ (iprop(owns (c : Thread nD τ) arg9 fullShare (if t.val % 8 = 7 then putS I (kt t) 0 x9 else x9) ∗ owns (c : Thread nD τ) arg11 fullShare (if t.val % 8 = 7 then dyF I (kt t) else x11) ∗ owns (c : Thread nD τ) arg12 fullShare (if t.val % 8 = 7 then putS I (kt t) 1 x12 else x12) ∗ owns (c : Thread nD τ) arg13 fullShare (if t.val % 8 = 7 then putS I (kt t) 2 x13 else x13) ∗ owns (c : Thread nD τ) arg15 fullShare (dyS I (kt t) (t.val % 8 + 1)) ∗ owns (c : Thread nD τ) arg20 fullShare x20) -∗ Q ⟨⟩))
      ⊢ wp frame (wpE (defs₀ (F := Ideal)) Variants.none c none) E (sufProg (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v751) Q := by
  have hN : t.val < 16 := lt_of_lt_of_eq t.isLt (show cfg0.N = 16 from N_0)
  by_cases h7 : t.val % 8 = 7
  · simp only [if_pos h7, h7]
    rw [h7] at h20
    by_cases h1 : t.val < 8
    · have hk : kt t = 0 := Fin.ext (by show t.val / 8 = 0; omega)
      have hw := sufC_wp c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x9 x11 x12 x13 (dyS I (kt t) 8) x20 (grid0.coords t) v751 ((hcond0_3 t).mpr h7) ((hcond0_4 t).mpr h1) (fun h => absurd ((hcond0_5 t).mp h) (by omega)) E Q
      rw [← hk, rowPut_eq I h20, rowPut_eq I h20, rowPut_eq I h20, hv] at hw
      refine BIBase.Entails.trans ?_ hw
      iintro ⟨H9, H11, H12, H13, H15, H20, Hk⟩
      isplitl [H9]; · iexact H9
      isplitl [H11]; · iexact H11
      isplitl [H12]; · iexact H12
      isplitl [H13]; · iexact H13
      isplitl [H15]; · iexact H15
      isplitl [H20]; · iexact H20
      iexact Hk
    · have hk : kt t = 1 := Fin.ext (by show t.val / 8 = 1; omega)
      have hw := sufE_wp c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x9 x11 x12 x13 (dyS I (kt t) 8) x20 (grid0.coords t) v751 ((hcond0_3 t).mpr h7) (fun h => h1 ((hcond0_4 t).mp h)) ((hcond0_5 t).mpr (by omega)) E Q
      rw [← hk, rowPut_eq I h20, rowPut_eq I h20, rowPut_eq I h20, hv] at hw
      refine BIBase.Entails.trans ?_ hw
      iintro ⟨H9, H11, H12, H13, H15, H20, Hk⟩
      isplitl [H9]; · iexact H9
      isplitl [H11]; · iexact H11
      isplitl [H12]; · iexact H12
      isplitl [H13]; · iexact H13
      isplitl [H15]; · iexact H15
      isplitl [H20]; · iexact H20
      iexact Hk
  · simp only [if_neg h7]
    refine BIBase.Entails.trans ?_ (sufB_wp c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (grid0.coords t) v751 (fun h => h7 ((hcond0_3 t).mp h)) E Q)
    iintro ⟨H9, H11, H12, H13, H15, H20, Hk⟩
    iapply Hk
    isplitl [H9]; · iexact H9
    isplitl [H11]; · iexact H11
    isplitl [H12]; · iexact H12
    isplitl [H13]; · iexact H13
    isplitl [H15]; · iexact H15
    iexact H20

/-- The whole body at a point. -/
theorem body_pt (h : At I (kt t) (t.val % 8) x2 x3 x4 x5 x6 x7 x8) (x9 : Vec Ideal S2x2048 .f32) (x11 : Vec Ideal S1x2048x768 .bf16) (x12 : Vec Ideal S2x2048 .f32) (x13 : Vec Ideal S2x2048 .f32) (E : Set ℕ) (Q : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11 ∗ owns (c : Thread nD τ) arg12 fullShare x12 ∗ owns (c : Thread nD τ) arg13 fullShare x13 ∗ ScrIn I c t arg14 arg15 arg16 arg17 arg18 arg19 arg20
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (if t.val % 8 = 7 then putS I (kt t) 0 x9 else x9) ∗ owns (c : Thread nD τ) arg10 fullShare (dxS I (kt t) (t.val % 8)) ∗ owns (c : Thread nD τ) arg11 fullShare (if t.val % 8 = 7 then dyF I (kt t) else x11) ∗ owns (c : Thread nD τ) arg12 fullShare (if t.val % 8 = 7 then putS I (kt t) 1 x12 else x12) ∗ owns (c : Thread nD τ) arg13 fullShare (if t.val % 8 = 7 then putS I (kt t) 2 x13 else x13) ∗ ScrOut I c t arg14 arg15 arg16 arg17 arg18 arg19 arg20) -∗ Q ⟨⟩))
      ⊢ wp frame (wpE (defs₀ (F := Ideal)) Variants.none c none) E (cc0_siglip_fwd_bwd (F := Ideal) (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q := by
  rw [body_eq]
  obtain ⟨V, hV, hw⟩ := pre_pt I c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 h E (fun v => midProg (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v.1 v.2.1 v.2.2.1 v.2.2.2.1 v.2.2.2.2.1 v.2.2.2.2.2.1 v.2.2.2.2.2.2.1 v.2.2.2.2.2.2.2.1 v.2.2.2.2.2.2.2.2 (sufProg (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)) Q
  refine BIBase.Entails.trans ?_ hw
  iintro ⟨H2, H3, H4, H5, H6, H7, H8, H9, H10, H11, H12, H13, HS, Hk⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H2, H3, H4, H5, H6, H7, H8, H14, H15, H17, H18, H19, ⟨%x16, H16⟩, ⟨%x20, %h20, H20⟩⟩
  icases H10 with ⟨%x10, H10⟩
  have hm := mid_wp (B := blk I (kt t) (t.val % 8)) c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 V.1 V.2.1 V.2.2.1 V.2.2.2.1 V.2.2.2.2.1 V.2.2.2.2.2.1 V.2.2.2.2.2.2.1 V.2.2.2.2.2.2.2.1 V.2.2.2.2.2.2.2.2 x2 x4 x10 (ybS I (kt t)) (dyS I (kt t) (t.val % 8)) x16 (ysS I (kt t)) (idS I (kt t)) x20
    (h.holds hV) (fun r => I.xs (kt t) (jr (t.val % 8) r)) hV.sx hV.xb E (sufProg (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q
  rw [h.dx hV, h.dyt, coord_q t] at hm
  iapply hm
  isplitl [H2]; · iexact H2
  isplitl [H4]; · iexact H4
  isplitl [H10]; · iexact H10
  isplitl [H14]; · iexact H14
  isplitl [H15]; · iexact H15
  isplitl [H16]; · iexact H16
  isplitl [H18]; · iexact H18
  isplitl [H19]; · iexact H19
  isplitl [H20]; · iexact H20
  iintro ⟨H2, H4, H10, H14, H15, H16, H18, H19, H20⟩
  iapply (suf_pt I c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x9 x11 x12 x13 (rowsIn (blk I (kt t) (t.val % 8)) (t.val % 8) x20) (k0_pay261 (F := Ideal) V.2.2.1) (by pointwise [k0_pay261]; rw [hV.t, h.tp]; rfl) (rowsIn_ok I h20) E Q)
  isplitl [H9]; · iexact H9
  isplitl [H11]; · iexact H11
  isplitl [H12]; · iexact H12
  isplitl [H13]; · iexact H13
  isplitl [H15]; · iexact H15
  isplitl [H20]; · iexact H20
  iintro ⟨H9, H11, H12, H13, H15, H20⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  unfold ScrOut
  isplitl [H14]; · iexact H14
  isplitl [H15]; · iexact H15
  isplitl [H16]; · iexists _; iexact H16
  isplitl [H17]; · iexact H17
  isplitl [H18]; · iexact H18
  isplitl [H19]; · iexact H19
  iexists _; isplitr
  · ipureintro; exact rowsIn_ok I h20
  · iexact H20

end Point

end Cert.KernelIdeal.Hand

end
-- ==== Proof.Hand.Run.lean ====
/- The run of the whole kernel: what the windows hold at each point, the frame, and what every result array holds at the end. -/
module

public import Idealize.ShloMosaic.Lib.Pipeline.DatRel
public import Idealize.ShloMosaic.Lib.Pipeline.ArrRel
public import Idealize.ShloMosaic.Lib.Pipeline.ValueKit
public import proofs.«01_k».proof.Proof.Hand.Point

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The inputs of the kernel on a core, as the memory at launch holds them. -/
def inOf (c : Dev nD) : In where
  x k s d := (V m c main_arg0 : Vec Ideal S2x2048x768 .fp8e4m3) (ix3 k s d)
  y k s d := (V m c main_arg2 : Vec Ideal S2x2048x768 .fp8e4m3) (ix3 k s d)
  xs k s := (V m c main_arg1 : Vec Ideal S2x2048 .f32) (ix2 k s)
  ys k s := (V m c main_arg3 : Vec Ideal S2x2048 .f32) (ix2 k s)
  ids k s := (V m c main_arg4 : Vec Ideal S2x2048 .i32) (ix2 k s)
  tp := (V m c main_v0 : Vec Ideal S1x1 .f32) (ix2 0 0)
  b := (V m c main_v1 : Vec Ideal S1x1 .f32) (ix2 0 0)

theorem idx0 : ∀ t : Fin cfg0.N, win0_0.index t = ![t.val / 8, t.val % 8, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val / 8, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx8 : ∀ t : Fin cfg0.N, win0_8.index t = ![t.val / 8, t.val % 8, 0] := (by decide +kernel : ∀ t : Fin grid0.N, _)
theorem idx9 : ∀ t : Fin cfg0.N, win0_9.index t = ![t.val / 8, 0, 0] := (by decide +kernel : ∀ t : Fin grid0.N, _)

theorem jr_val (q : ℕ) (r : Fin 256) : (jr q r).val = 256 * (q % 8) + r.val := rfl
theorem kt_val (t : Fin cfg0.N) : (kt t).val = t.val / 8 := rfl

/-- At every point the windows' blocks are the inputs' there. -/
theorem at_pt (c : Dev nD) (t : Fin cfg0.N) : At (inOf m c) (kt t) (t.val % 8) (iblk m c 0 t) (iblk m c 1 t) (iblk m c 2 t) (iblk m c 3 t) (iblk m c 4 t) (iblk m c 5 t) (iblk m c 6 t) where
  x r d := by
    show _ = (V m c main_arg0 : Vec Ideal S2x2048x768 .fp8e4m3) (ix3 (kt t) (jr (t.val % 8) r) d)
    blk_ext [iblk, idx0, jr_val, kt_val]
  y j d := by
    show _ = (V m c main_arg2 : Vec Ideal S2x2048x768 .fp8e4m3) (ix3 (kt t) j d)
    blk_ext [iblk, idx2, kt_val]
  xs j := by
    show _ = (V m c main_arg1 : Vec Ideal S2x2048 .f32) (ix2 (kt t) j)
    blk_ext [iblk, idx1, kt_val]
  ys j := by
    show _ = (V m c main_arg3 : Vec Ideal S2x2048 .f32) (ix2 (kt t) j)
    blk_ext [iblk, idx3, kt_val]
  ids j := by
    show _ = (V m c main_arg4 : Vec Ideal S2x2048 .i32) (ix2 (kt t) j)
    blk_ext [iblk, idx4, kt_val]
  tp := by
    show _ = (V m c main_v0 : Vec Ideal S1x1 .f32) (ix2 0 0)
    blk_ext [iblk, idx5]
  b := by
    show _ = (V m c main_v1 : Vec Ideal S1x1 .f32) (ix2 0 0)
    blk_ext [iblk, idx6]

/-- A two-row array holds the rows of the batches that ended before the `n`th point. -/
def Rows (I : In) (n : Fin 3) (p : ℕ) (X : Vec Ideal S2x2048 .f32) : Prop := ∀ k : Fin 2, 8 * k.val + 7 < p → ∀ s : Fin 2048, X (ix2 k s) = rowS I k n s

theorem rows_step (I : In) (n : Fin 3) (t : Fin cfg0.N) (X : Vec Ideal S2x2048 .f32) (h : Rows I n t.val X) :
    Rows I n (t.val + 1) (if t.val % 8 = 7 then putS I (kt t) n X else X) := by
  have hN : t.val < 16 := lt_of_lt_of_eq t.isLt (show cfg0.N = 16 from N_0)
  intro k hk s
  by_cases h7 : t.val % 8 = 7
  · rw [if_pos h7]
    unfold putS
    by_cases he : k.val = t.val / 8
    · have : kt t = k := Fin.ext he.symm
      rw [this]
      exact if_pos rfl
    · exact (if_neg he).trans (h k (by omega) s)
  · rw [if_neg h7]
    exact h k (by omega) s

/-- The invariant between points: the scratch as the point before left it. -/
def PhiS (c : Dev nD) : (n : ℕ) → n ≤ cfg0.N → sProp 𝕄
  | 0, _ => Pipeline.ΦA spec0 c
  | n + 1, hn => iprop(ScrOut (inOf m c) c ⟨n, hn⟩ scM0_0 scM0_1 scM0_2 scM0_3 scM0_4 scM0_5 scM0_6 ∗ (∃ r, prngReg c r))

/-- The outputs, of which the proof data say a relation. -/
def rel0 : Fin 12 → Bool := fun w => w.val == 7 || w.val == 8 || w.val == 9 || w.val == 10 || w.val == 11

/-- What the body leaves in each output at a point. -/
def Rl (c : Dev nD) : (w : Fin cfg0.W) → Fin cfg0.N → ((cfg0.win w).block.Idx → Elt Ideal (cfg0.win w).elt) → Prop := fun w => match w with
  | ⟨7, _⟩ => fun t X => Rows (inOf m c) 0 (t.val + 1) X
  | ⟨8, _⟩ => fun t X => X = dxS (inOf m c) (kt t) (t.val % 8)
  | ⟨9, _⟩ => fun t X => t.val % 8 = 7 → X = dyF (inOf m c) (kt t)
  | ⟨10, _⟩ => fun t X => Rows (inOf m c) 1 (t.val + 1) X
  | ⟨11, _⟩ => fun t X => Rows (inOf m c) 2 (t.val + 1) X
  | _ => fun _ _ => True

/-- The proof data of the pipeline on a core. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d

/-- The proof data read relationally in the outputs. -/
abbrev rdat (c : Dev nD) := (dats m 0 c).toRRel rel0 (Rl m c)

theorem fetch7 : ∀ t : Fin cfg0.N, (cfg0.win 7).fetch t = false := (by decide +kernel : ∀ t : Fin grid0.N, _)
theorem flush7 : ∀ t : Fin cfg0.N, (cfg0.win 7).flush t = true → t.val = 15 := (by decide +kernel : ∀ t : Fin grid0.N, _)
/-- What window 7 may hold before a point. -/
theorem finds7 (c : Dev nD) (t : Fin cfg0.N) (X : Vec Ideal S2x2048 .f32) (h : (rdat m c).Finds 7 t X) : Rows (inOf m c) 0 t.val X := by
  have hN : t.val < 16 := lt_of_lt_of_eq t.isLt (show cfg0.N = 16 from N_0)
  by_cases h0 : t.val = 0
  · intro k hk; omega
  · rcases (Pipeline.RDat.finds_of_pos _ (fetch7 t) h0 X).mp h with hf | hl
    · have := flush7 _ hf
      have : t.val - 1 = 15 := this
      omega
    · have hr : Rows (inOf m c) 0 (t.val - 1 + 1) X := Pipeline.Dat.toRRel_leaves _ (rfl : rel0 7 = true) hl
      rwa [Nat.sub_add_cancel (Nat.pos_of_ne_zero h0)] at hr

theorem fetch10 : ∀ t : Fin cfg0.N, (cfg0.win 10).fetch t = false := (by decide +kernel : ∀ t : Fin grid0.N, _)
theorem flush10 : ∀ t : Fin cfg0.N, (cfg0.win 10).flush t = true → t.val = 15 := (by decide +kernel : ∀ t : Fin grid0.N, _)
/-- What window 10 may hold before a point. -/
theorem finds10 (c : Dev nD) (t : Fin cfg0.N) (X : Vec Ideal S2x2048 .f32) (h : (rdat m c).Finds 10 t X) : Rows (inOf m c) 1 t.val X := by
  have hN : t.val < 16 := lt_of_lt_of_eq t.isLt (show cfg0.N = 16 from N_0)
  by_cases h0 : t.val = 0
  · intro k hk; omega
  · rcases (Pipeline.RDat.finds_of_pos _ (fetch10 t) h0 X).mp h with hf | hl
    · have := flush10 _ hf
      have : t.val - 1 = 15 := this
      omega
    · have hr : Rows (inOf m c) 1 (t.val - 1 + 1) X := Pipeline.Dat.toRRel_leaves _ (rfl : rel0 10 = true) hl
      rwa [Nat.sub_add_cancel (Nat.pos_of_ne_zero h0)] at hr

theorem fetch11 : ∀ t : Fin cfg0.N, (cfg0.win 11).fetch t = false := (by decide +kernel : ∀ t : Fin grid0.N, _)
theorem flush11 : ∀ t : Fin cfg0.N, (cfg0.win 11).flush t = true → t.val = 15 := (by decide +kernel : ∀ t : Fin grid0.N, _)
/-- What window 11 may hold before a point. -/
theorem finds11 (c : Dev nD) (t : Fin cfg0.N) (X : Vec Ideal S2x2048 .f32) (h : (rdat m c).Finds 11 t X) : Rows (inOf m c) 2 t.val X := by
  have hN : t.val < 16 := lt_of_lt_of_eq t.isLt (show cfg0.N = 16 from N_0)
  by_cases h0 : t.val = 0
  · intro k hk; omega
  · rcases (Pipeline.RDat.finds_of_pos _ (fetch11 t) h0 X).mp h with hf | hl
    · have := flush11 _ hf
      have : t.val - 1 = 15 := this
      omega
    · have hr : Rows (inOf m c) 2 (t.val - 1 + 1) X := Pipeline.Dat.toRRel_leaves _ (rfl : rel0 11 = true) hl
      rwa [Nat.sub_add_cancel (Nat.pos_of_ne_zero h0)] at hr

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜(rdat m c).Finds 7 t Y⌝ ∗ owns (c : Thread nD τ) (ms0_7 t) fullShare Y)
    ∗ (∃ Y, ⌜(rdat m c).Finds 8 t Y⌝ ∗ owns (c : Thread nD τ) (ms0_8 t) fullShare Y)
    ∗ (∃ Y, ⌜(rdat m c).Finds 9 t Y⌝ ∗ owns (c : Thread nD τ) (ms0_9 t) fullShare Y)
    ∗ (∃ Y, ⌜(rdat m c).Finds 10 t Y⌝ ∗ owns (c : Thread nD τ) (ms0_10 t) fullShare Y)
    ∗ (∃ Y, ⌜(rdat m c).Finds 11 t Y⌝ ∗ owns (c : Thread nD τ) (ms0_11 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, ⌜Rl m c 7 t X⌝ ∗ owns (c : Thread nD τ) (ms0_7 t) fullShare X)
    ∗ (∃ X, ⌜Rl m c 8 t X⌝ ∗ owns (c : Thread nD τ) (ms0_8 t) fullShare X)
    ∗ (∃ X, ⌜Rl m c 9 t X⌝ ∗ owns (c : Thread nD τ) (ms0_9 t) fullShare X)
    ∗ (∃ X, ⌜Rl m c 10 t X⌝ ∗ owns (c : Thread nD τ) (ms0_10 t) fullShare X)
    ∗ (∃ X, ⌜Rl m c 11 t X⌝ ∗ owns (c : Thread nD τ) (ms0_11 t) fullShare X))

/-- Before a point the invariant is the scratch as the body takes it. -/
theorem PhiS_in (c : Dev nD) (t : Fin cfg0.N) : PhiS m c t.val (Nat.le_of_lt t.isLt) ⊢ iprop(ScrIn (inOf m c) c t scM0_0 scM0_1 scM0_2 scM0_3 scM0_4 scM0_5 scM0_6 ∗ (∃ r, prngReg c r)) := by
  obtain ⟨n, hn⟩ := t
  cases n with
  | zero =>
    unfold ScrIn
    rw [if_pos (show (0 : ℕ) % 8 = 0 from rfl)]
    show Pipeline.ΦA spec0 c ⊢ _
    rw [PhiA0_eq]
  | succ n =>
    show iprop(ScrOut (inOf m c) c ⟨n, Nat.lt_of_succ_lt hn⟩ scM0_0 scM0_1 scM0_2 scM0_3 scM0_4 scM0_5 scM0_6 ∗ (∃ r, prngReg c r)) ⊢ _
    have hN : n + 1 < 16 := lt_of_lt_of_eq hn (show cfg0.N = 16 from N_0)
    unfold ScrIn ScrOut
    by_cases h0 : (n + 1) % 8 = 0
    · rw [if_pos h0]
      iintro ⟨⟨H14, H15, ⟨%d16, H16⟩, H17, H18, H19, ⟨%d20, %h20, H20⟩⟩, Hg⟩
      isplitr [Hg]
      · isplitl [H14]; · iexists _; iexact H14
        isplitl [H15]; · iexists _; iexact H15
        isplitl [H16]; · iexists _; iexact H16
        isplitl [H17]; · iexists _; iexact H17
        isplitl [H18]; · iexists _; iexact H18
        isplitl [H19]; · iexists _; iexact H19
        iexists _; iexact H20
      · iexact Hg
    · rw [if_neg h0]
      have hk : kt ⟨n, Nat.lt_of_succ_lt hn⟩ = kt ⟨n + 1, hn⟩ := Fin.ext (by show n / 8 = (n + 1) / 8; omega)
      have hq : (n + 1) % 8 = n % 8 + 1 := by omega
      rw [hk]
      dsimp only
      rw [hq]

/-- After a point the invariant gives the scratch at anything. -/
theorem PhiS_out (c : Dev nD) (n : ℕ) (hn : n < cfg0.N) : PhiS m c (n + 1) hn ⊢ Pipeline.ΦA spec0 c := by
  show iprop(ScrOut (inOf m c) c ⟨n, hn⟩ scM0_0 scM0_1 scM0_2 scM0_3 scM0_4 scM0_5 scM0_6 ∗ (∃ r, prngReg c r)) ⊢ _
  rw [PhiA0_eq]
  unfold ScrOut
  iintro ⟨⟨H14, H15, ⟨%d16, H16⟩, H17, H18, H19, ⟨%d20, %h20, H20⟩⟩, Hg⟩
  isplitr [Hg]
  · isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20
  · iexact Hg

theorem sep_left {P P' Q R : sProp 𝕄} (h : P ⊢ P') (h2 : iprop(P' ∗ Q) ⊢ R) : iprop(P ∗ Q) ⊢ R :=
  BIBase.Entails.trans (BI.sep_mono h (Idealize.SL.BI.Entails.refl _)) h2

/-- The body at any point. -/
theorem sound_body (c : Dev nD) (t : Fin cfg0.N) : bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, after0_0, after0_1, after0_2, after0_3, after0_4, after0_5, after0_6]
  rw [show (dats m 0 c).owesAt () t.succ = (dats m 0 c).owesAt () t.castSucc from rfl, PhiS_castSucc]
  rw [show (dats m 0 c).Φ t.succ = iprop(ScrOut (inOf m c) c t scM0_0 scM0_1 scM0_2 scM0_3 scM0_4 scM0_5 scM0_6 ∗ (∃ r, prngReg c r)) from rfl]
  refine sep_left (PhiS_in m c t) ?_
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%Y7, %F7, H7⟩, ⟨%Y8, %F8, H8⟩, ⟨%Y9, %F9, H9⟩, ⟨%Y10, %F10, H10⟩, ⟨%Y11, %F11, H11⟩⟩
  iapply (body_pt (inOf m c) c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (at_pt m c t) Y7 Y9 Y10 Y11 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [HS]; · iexact HS
  iintro ⟨H0, H1, H2, H3, H4, H5, H6, H7, H8, H9, H10, H11, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    · ipureintro; exact rows_step _ _ t _ (finds7 m c t Y7 F7)
    · iexact H7
  isplitl [H8]
  · iexists _; isplitr
    · ipureintro; exact rfl
    · iexact H8
  isplitl [H9]
  · iexists (if t.val % 8 = 7 then dyF (inOf m c) (kt t) else Y9); isplitr
    · ipureintro; exact fun h7 => (if_pos h7 : (if t.val % 8 = 7 then dyF (inOf m c) (kt t) else Y9) = _)
    · iexact H9
  isplitl [H10]
  · iexists _; isplitr
    · ipureintro; exact rows_step _ _ t _ (finds10 m c t Y10 F10)
    · iexact H10
  iexists _; isplitr
  · ipureintro; exact rows_step _ _ t _ (finds11 m c t Y11 F11)
  · iexact H11

/-- The body table's row at a point's slots is the body. -/
theorem defs₀_row (t : Fin cfg0.N) :
    defs₀ (F := Ideal) .tc cfg0.body (cfg0.bodyArgs t (cfg0.slots t)) = bodyAt0 t := by
  unfold defs₀; rw [Defs.onTc_tc]

/-- The body obligation of the pipeline. -/
theorem body_obligation (c : Dev nD) : Pipeline.BodyObligationRel (dats m 0 c) (defs₀ (F := Ideal)) Variants.none () Set.univ rel0 (Rl m c) := fun t => by
  rw [bigSep_W0, bigSep_W0, defs₀_row]
  exact triple_restated (sound_body m c t) rfl .rfl fun _ => .rfl

theorem hin (c : Dev nD) : Pipeline.ΦA spec0 c ⊢ (rdat m c).Φ 0 := Idealize.SL.BI.Entails.refl _

theorem hout (c : Dev nD) : (rdat m c).Φ (Fin.last cfg0.N) ⊢ Pipeline.ΦA spec0 c := PhiS_out m c 15 (by rw [show cfg0.N = 16 from N_0]; decide)

set_option backward.isDefEq.respectTransparency.types false in
/-- The launch: the run of the whole program to the relational proof data's post, every counter at zero. -/
theorem run_main_quiescent : θ_run defs (onTc (τ := τ) (main (F := Ideal))) (s₀ m ρ) (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := Ideal))) (s₀ m ρ) (Pipeline.RDat.FramePost (cfgs 0) (rdat m) (V m)) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (rdat m) (A_eq m) (run_main m ρ)

/-- The frame: every run ends, the argument arrays unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Hand

end
-- ==== Proof.Hand.Arrays.lean ====
/- What the kernel's five result arrays hold when it ends. -/
module

public import proofs.«01_k».proof.Proof.Hand.Run

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- A two-row result: the loss rows (`n = 0`), or the rows of the derivative in the temperature (`1`) or the bias (`2`). -/
def kRow (I : In) (n : Fin 3) : Vec Ideal S2x2048 .f32 := fun y => rowS I (y 0) n (y 1)
/-- The gradient in `x`. -/
def kDx (I : In) : Vec Ideal S2x2048x768 .bf16 := fun y => dxS I (y 0) ((y 1).val / 256) (ix3 0 ⟨(y 1).val % 256, Nat.mod_lt _ (by decide)⟩ (y 2))
/-- The gradient in `y`. -/
def kDy (I : In) : Vec Ideal S2x2048x768 .bf16 := fun y => dyF I (y 0) (ix3 0 (y 1) (y 2))

theorem flush9 : ∀ t : Fin cfg0.N, (cfg0.win 9).flush t = true → t.val % 8 = 7 := (by decide +kernel : ∀ t : Fin grid0.N, _)

variable {m}

theorem idx7 : ∀ t : Fin cfg0.N, win0_7.index t = ![0, 0] := (by decide +kernel : ∀ t : Fin grid0.N, _)
/-- What window 7's array holds at the end. -/
theorem arr7 {c : Dev nD} {after : (w : Fin cfg0.W) → Fin cfg0.N → (cfg0.win w).block.Idx → Elt Ideal (cfg0.win w).elt}
    (hl : ∀ (w : Fin cfg0.W) (u : Fin cfg0.N), (cfg0.win w).flush u = true → (rdat m c).Leaves w u (after w u)) :
    ((rdat m c).withAfter after).arrAt 7 cfg0.N = kRow (inOf m c) 0 := by
  refine Dat.arrAt_eq_of_covers _ 7 _ (by decide +kernel : (cfg0.win 7).Covers) fun t hf y => ?_
  have ht := flush7 t hf
  have hR : Rows (inOf m c) 0 (t.val + 1) (after 7 t) := Dat.toRRel_leaves _ (rfl : rel0 7 = true) (hl 7 t hf)
  have e : (((cfg0.win 7).blk t).view.emb y : S2x2048.Idx) = ix2 (y 0 : Fin 2) (y 1 : Fin 2048) := by blk_ext [idx7]
  have hk : 8 * (y 0 : Fin 2).val + 7 < t.val + 1 := by
    have h2 : (y 0 : Fin 2).val < 2 := (y 0 : Fin 2).isLt
    rw [ht]
    generalize (y 0 : Fin 2).val = n at h2 ⊢
    omega
  refine Eq.trans ?_ (congrArg (kRow (inOf m c) 0) e).symm
  refine Eq.trans ?_ (hR (y 0) hk (y 1))
  blk_simp
  exact congrArg (after 7 t) (by idx_ext)

theorem idx10 : ∀ t : Fin cfg0.N, win0_10.index t = ![0, 0] := (by decide +kernel : ∀ t : Fin grid0.N, _)
/-- What window 10's array holds at the end. -/
theorem arr10 {c : Dev nD} {after : (w : Fin cfg0.W) → Fin cfg0.N → (cfg0.win w).block.Idx → Elt Ideal (cfg0.win w).elt}
    (hl : ∀ (w : Fin cfg0.W) (u : Fin cfg0.N), (cfg0.win w).flush u = true → (rdat m c).Leaves w u (after w u)) :
    ((rdat m c).withAfter after).arrAt 10 cfg0.N = kRow (inOf m c) 1 := by
  refine Dat.arrAt_eq_of_covers _ 10 _ (by decide +kernel : (cfg0.win 10).Covers) fun t hf y => ?_
  have ht := flush10 t hf
  have hR : Rows (inOf m c) 1 (t.val + 1) (after 10 t) := Dat.toRRel_leaves _ (rfl : rel0 10 = true) (hl 10 t hf)
  have e : (((cfg0.win 10).blk t).view.emb y : S2x2048.Idx) = ix2 (y 0 : Fin 2) (y 1 : Fin 2048) := by blk_ext [idx10]
  have hk : 8 * (y 0 : Fin 2).val + 7 < t.val + 1 := by
    have h2 : (y 0 : Fin 2).val < 2 := (y 0 : Fin 2).isLt
    rw [ht]
    generalize (y 0 : Fin 2).val = n at h2 ⊢
    omega
  refine Eq.trans ?_ (congrArg (kRow (inOf m c) 1) e).symm
  refine Eq.trans ?_ (hR (y 0) hk (y 1))
  blk_simp
  exact congrArg (after 10 t) (by idx_ext)

theorem idx11 : ∀ t : Fin cfg0.N, win0_11.index t = ![0, 0] := (by decide +kernel : ∀ t : Fin grid0.N, _)
/-- What window 11's array holds at the end. -/
theorem arr11 {c : Dev nD} {after : (w : Fin cfg0.W) → Fin cfg0.N → (cfg0.win w).block.Idx → Elt Ideal (cfg0.win w).elt}
    (hl : ∀ (w : Fin cfg0.W) (u : Fin cfg0.N), (cfg0.win w).flush u = true → (rdat m c).Leaves w u (after w u)) :
    ((rdat m c).withAfter after).arrAt 11 cfg0.N = kRow (inOf m c) 2 := by
  refine Dat.arrAt_eq_of_covers _ 11 _ (by decide +kernel : (cfg0.win 11).Covers) fun t hf y => ?_
  have ht := flush11 t hf
  have hR : Rows (inOf m c) 2 (t.val + 1) (after 11 t) := Dat.toRRel_leaves _ (rfl : rel0 11 = true) (hl 11 t hf)
  have e : (((cfg0.win 11).blk t).view.emb y : S2x2048.Idx) = ix2 (y 0 : Fin 2) (y 1 : Fin 2048) := by blk_ext [idx11]
  have hk : 8 * (y 0 : Fin 2).val + 7 < t.val + 1 := by
    have h2 : (y 0 : Fin 2).val < 2 := (y 0 : Fin 2).isLt
    rw [ht]
    generalize (y 0 : Fin 2).val = n at h2 ⊢
    omega
  refine Eq.trans ?_ (congrArg (kRow (inOf m c) 2) e).symm
  refine Eq.trans ?_ (hR (y 0) hk (y 1))
  blk_simp
  exact congrArg (after 11 t) (by idx_ext)

theorem jr_of {q : ℕ} (r : Fin 256) (hq : q < 8) : q * 256 + r.val = (jr q r).val := by rw [jr_val]; omega

theorem kDx_at (I : In) (k : Fin 2) {q : ℕ} (r : Fin 256) (hq : q < 8) (d : Fin 768) : kDx I (ix3 k (jr q r) d) = dxS I k q (ix3 0 r d) := by
  have h := r.isLt
  show dxS I k ((jr q r).val / 256) (ix3 0 ⟨(jr q r).val % 256, _⟩ d) = _
  have h1 : (jr q r).val / 256 = q := by rw [jr_val]; omega
  have h2 : (⟨(jr q r).val % 256, Nat.mod_lt _ (by decide)⟩ : Fin 256) = r := Fin.ext (by show (jr q r).val % 256 = r.val; rw [jr_val]; omega)
  exact congr (congrArg (dxS I k) h1) (congrArg (ix3 0 · d) h2)

/-- What window 8's array holds at the end. -/
theorem arr8 {c : Dev nD} {after : (w : Fin cfg0.W) → Fin cfg0.N → (cfg0.win w).block.Idx → Elt Ideal (cfg0.win w).elt}
    (hl : ∀ (w : Fin cfg0.W) (u : Fin cfg0.N), (cfg0.win w).flush u = true → (rdat m c).Leaves w u (after w u)) :
    ((rdat m c).withAfter after).arrAt 8 cfg0.N = kDx (inOf m c) := by
  refine Dat.arrAt_eq_of_covers _ 8 _ (by decide +kernel : (cfg0.win 8).Covers) fun t hf y => ?_
  have hR : after 8 t = dxS (inOf m c) (kt t) (t.val % 8) := Dat.toRRel_leaves _ (rfl : rel0 8 = true) (hl 8 t hf)
  have e : (((cfg0.win 8).blk t).view.emb y : S2x2048x768.Idx) = ix3 (kt t) (jr (t.val % 8) (y 1)) (y 2 : Fin 768) := by
    blk_ext [idx8, kt_val]
    exact jr_of (y 1 : Fin 256) (Nat.mod_lt _ (by decide))
  refine Eq.trans ?_ (congrArg (kDx (inOf m c)) e).symm
  refine Eq.trans ?_ (kDx_at (inOf m c) (kt t) (y 1 : Fin 256) (Nat.mod_lt _ (by decide)) (y 2 : Fin 768)).symm
  blk_simp [hR, Pipeline.RDat.withAfter_after]
  rfl

/-- What window 9's array holds at the end. -/
theorem arr9 {c : Dev nD} {after : (w : Fin cfg0.W) → Fin cfg0.N → (cfg0.win w).block.Idx → Elt Ideal (cfg0.win w).elt}
    (hl : ∀ (w : Fin cfg0.W) (u : Fin cfg0.N), (cfg0.win w).flush u = true → (rdat m c).Leaves w u (after w u)) :
    ((rdat m c).withAfter after).arrAt 9 cfg0.N = kDy (inOf m c) := by
  refine Dat.arrAt_eq_of_covers _ 9 _ (by decide +kernel : (cfg0.win 9).Covers) fun t hf y => ?_
  have hR : after 9 t = dyF (inOf m c) (kt t) := Dat.toRRel_leaves _ (rfl : rel0 9 = true) (hl 9 t hf) (flush9 t hf)
  rw [show ((rdat m c).withAfter after).after 9 t = dyF (inOf m c) (kt t) from hR]
  have e : (((cfg0.win 9).blk t).view.emb y : S2x2048x768.Idx) = ix3 (kt t) (y 1 : Fin 2048) (y 2 : Fin 768) := by blk_ext [idx9, kt_val]
  refine Eq.trans ?_ (congrArg (kDy (inOf m c)) e).symm
  blk_simp
  rfl

variable (m)

/-- The run of the kernel, every result array named and the arguments unchanged. -/
theorem values : θ_run defs (onTc (τ := τ) (main (F := Ideal))) ⟨m, fun _ => 0, ρ⟩ (fun r => ∀ c : Dev nD,
      r.2.mem ((c.tc : Thread nD τ).loc main_v2_0) = kRow (inOf m c) 0
      ∧ r.2.mem ((c.tc : Thread nD τ).loc main_v2_1) = kDx (inOf m c)
      ∧ r.2.mem ((c.tc : Thread nD τ).loc main_v2_2) = kDy (inOf m c)
      ∧ r.2.mem ((c.tc : Thread nD τ).loc main_v2_3) = kRow (inOf m c) 1
      ∧ r.2.mem ((c.tc : Thread nD τ).loc main_v2_4) = kRow (inOf m c) 2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (θ_run_and (unchanged m ρ) (run_main m ρ))
  obtain ⟨after, hl, hA⟩ := Pipeline.RDat.FramePost.exists_exact h.2 c
  exact ⟨(hA 7).trans (arr7 hl), (hA 8).trans (arr8 hl), (hA 9).trans (arr9 hl), (hA 10).trans (arr10 hl), (hA 11).trans (arr11 hl), h.1 c⟩

end Cert.KernelIdeal.Hand

end
-- ==== Proof.Hand.Math.lean ====
/- The arithmetic that carries the kernel's numbers to the problem's: logits kept in base two, the sigmoid from one exponential, the product of the
   `1 + e` in place of the sum of the logs. -/
module

public import proofs.«01_k».proof.Proof.Hand.Cell
public import Idealize.ShloMosaic.Lib.Pipeline.ValueKit

@[expose] public section

noncomputable section

namespace Cert.KernelIdeal.Hand

open Idealize.ShloMosaic

/-- `log2 e`. -/
def lam : ℝ := (Real.log 2)⁻¹

theorem log2_pos : 0 < Real.log 2 := Real.log_pos (by norm_num)
theorem lam_pos : 0 < lam := inv_pos.2 log2_pos

theorem named_log2e : Named.named (F := Ideal) κ "log2e" (φ := .f32) 0x3FB8AA3B#32 = ((lam : ℝ) : EReal) := IdealRules.named_const.ideal_named_scalar _ _ _ _ rfl
theorem named_ln2 : Named.named (F := Ideal) κ "ln2" (φ := .f32) 0x3F317218#32 = ((Real.log 2 : ℝ) : EReal) := IdealRules.named_const.ideal_named_scalar _ _ _ _ rfl
theorem named_ln2_inv_s : Named.named (F := Ideal) κ "ln2_inv_s" (φ := .f32) 0x39B17218#32 = ((Real.log 2 * 2048⁻¹ : ℝ) : EReal) := IdealRules.named_const.ideal_named_scalar _ _ _ _ rfl

/-- The reciprocal of the length. -/
theorem inv_s : Ideal.ofBits .f32 0x3A000000#32 = ((2048⁻¹ : ℝ) : EReal) := by
  rw [show Ideal.ofBits .f32 0x3A000000#32 = Ideal.ieee 8 23 0x3A000000#32 from rfl]
  unfold Ideal.ieee
  norm_num [zpow_neg, Nat.shiftRight_eq_div_pow, show BitVec.extractLsb' 31 1 973078528#32 = 0#1 by decide]

theorem coe_max (a b : ℝ) : ((max a b : ℝ) : EReal) = max (a : EReal) (b : EReal) := (EReal.coe_strictMono.monotone).map_max

theorem exp_bot : Ideal.exp ⊥ = 0 := rfl
theorem exp2_bot : Ideal.exp2 ⊥ = 0 := rfl

/-- The size of a number. -/
def ab (x : EReal) : EReal := max x (-x)

theorem ab_coe (r : ℝ) : ab (r : EReal) = ((|r| : ℝ) : EReal) := by
  unfold ab
  rw [← EReal.coe_neg, ← coe_max]
  rfl

theorem top_mul_lam : (⊤ : EReal) * (lam : ℝ) = ⊤ := EReal.top_mul_coe_of_pos lam_pos
theorem bot_mul_lam : (⊥ : EReal) * (lam : ℝ) = ⊥ := EReal.bot_mul_coe_of_pos lam_pos

theorem rpow_two_lam (r : ℝ) : Real.rpow 2 (r * lam) = Real.exp r := by
  show (2 : ℝ) ^ (r * lam) = _
  rw [Real.rpow_def_of_pos (by norm_num), mul_comm r, ← mul_assoc, lam, mul_inv_cancel₀ log2_pos.ne', one_mul]

/-- `e` to minus the size. -/
def en (x : EReal) : EReal := Ideal.exp (0 - ab x)

theorem cE_lam (x : EReal) : cE (x * (lam : ℝ)) = en x := by
  show Ideal.exp2 (0 - ab _) = Ideal.exp (0 - ab _)
  induction x using EReal.rec with
  | bot => rw [bot_mul_lam]; simp [ab, exp_bot, exp2_bot]
  | top => rw [top_mul_lam]; simp [ab, exp_bot, exp2_bot]
  | coe r =>
    rw [← EReal.coe_mul, ab_coe, ab_coe, ← EReal.coe_zero, ← EReal.coe_sub, ← EReal.coe_sub]
    show ((Real.rpow 2 _ : ℝ) : EReal) = ((Real.exp _ : ℝ) : EReal)
    rw [abs_mul, abs_of_pos lam_pos, ← rpow_two_lam, zero_sub, zero_sub, neg_mul]

/-- `en` is a real in `[0, 1]`. -/
theorem en_real (x : EReal) : ∃ e : ℝ, 0 ≤ e ∧ en x = (e : EReal) := by
  unfold en
  induction x using EReal.rec with
  | bot => exact ⟨0, le_rfl, by simp [ab, exp_bot]⟩
  | top => exact ⟨0, le_rfl, by simp [ab, exp_bot]⟩
  | coe r => exact ⟨Real.exp (0 - |r|), (Real.exp_pos _).le, by rw [ab_coe, ← EReal.coe_zero, ← EReal.coe_sub]; rfl⟩

theorem en_neg (x : EReal) : en (0 - x) = en x := by unfold en ab; rw [zero_sub x, neg_neg, max_comm]

theorem cA_lam (p : BitVec 1) (x : EReal) : cA p (x * (lam : ℝ)) = cA p x * (lam : ℝ) := by
  unfold cA Scalar.select
  split
  · rw [zero_sub, zero_sub, EReal.neg_mul]
  · rfl

theorem en_cA (p : BitVec 1) (x : EReal) : en (cA p x) = en x := by
  unfold cA Scalar.select
  split
  · exact en_neg x
  · rfl

/-- The positive part, brought back from base two. -/
theorem max_lam (v : EReal) : max (v * (lam : ℝ)) 0 * ((Real.log 2 : ℝ) : EReal) = max v 0 := by
  induction v using EReal.rec with
  | bot => rw [bot_mul_lam]; simp
  | top => rw [top_mul_lam]; simp [EReal.top_mul_coe_of_pos log2_pos]
  | coe r =>
    rw [← EReal.coe_mul, ← EReal.coe_zero, ← coe_max, ← coe_max, ← EReal.coe_mul]
    congr 1
    rw [max_mul_of_nonneg _ _ log2_pos.le, zero_mul, mul_assoc, lam, inv_mul_cancel₀ log2_pos.ne', mul_one]

theorem div_one_coe {r : ℝ} (h : r ≠ 0) : Ideal.div 1 (r : EReal) = ((r⁻¹ : ℝ) : EReal) := by
  unfold Ideal.div
  rw [if_neg (by exact_mod_cast h), one_mul, EReal.coe_inv]

theorem logistic_coe (r : ℝ) : Ideal.logistic (r : EReal) = (((1 + Real.exp (-r))⁻¹ : ℝ) : EReal) := by
  unfold Ideal.logistic
  rw [← EReal.coe_neg]
  show Ideal.div 1 (1 + ((Real.exp (-r) : ℝ) : EReal)) = _
  rw [← EReal.coe_one, ← EReal.coe_add, EReal.coe_one, div_one_coe (by positivity)]

theorem logistic_top : Ideal.logistic ⊤ = 1 := by
  unfold Ideal.logistic
  rw [EReal.neg_top]
  show Ideal.div 1 (1 + 0) = 1
  rw [add_zero, ← EReal.coe_one, EReal.coe_one, show (1 : EReal) = ((1 : ℝ) : EReal) from rfl]
  exact (div_one_coe one_ne_zero).trans (by rw [inv_one])

theorem logistic_bot : Ideal.logistic ⊥ = 0 := by
  unfold Ideal.logistic
  rw [EReal.neg_bot]
  show Ideal.div 1 (1 + ⊤) = 0
  unfold Ideal.div
  rw [EReal.add_top_of_ne_bot (by decide)]
  simp

theorem logistic_zero_sub (x : EReal) : 0 - Ideal.logistic (0 - x) = Ideal.logistic x - 1 := by
  induction x using EReal.rec with
  | bot => rw [zero_sub, zero_sub, EReal.neg_bot, logistic_top, logistic_bot, zero_sub]
  | top => rw [zero_sub, zero_sub, EReal.neg_top, logistic_top, logistic_bot, neg_zero, ← EReal.coe_one, ← EReal.coe_sub, sub_self, EReal.coe_zero]
  | coe r =>
    rw [zero_sub, zero_sub, ← EReal.coe_neg, logistic_coe, logistic_coe, ← EReal.coe_neg, ← EReal.coe_one, ← EReal.coe_sub]
    congr 1
    rw [neg_neg, Real.exp_neg]
    have h : (0 : ℝ) < Real.exp r := Real.exp_pos r
    field_simp
    ring

theorem en_coe (r : ℝ) : en (r : EReal) = ((Real.exp (-|r|) : ℝ) : EReal) := by
  unfold en
  rw [ab_coe, ← EReal.coe_zero, ← EReal.coe_sub, zero_sub]
  rfl

theorem cS_lam (a : EReal) : cS (a * (lam : ℝ)) (en a) = Ideal.logistic a := by
  unfold cS
  induction a using EReal.rec with
  | bot =>
    rw [bot_mul_lam, if_neg (by decide), logistic_bot]
    simp [en, ab, exp_bot]
  | top =>
    rw [top_mul_lam, if_pos le_top, logistic_top]
    show Ideal.div 1 (1 + Ideal.exp (0 - ab ⊤)) = 1
    have : Ideal.exp (0 - ab ⊤) = 0 := by simp [ab, exp_bot]
    rw [this, add_zero]
    exact (div_one_coe one_ne_zero).trans (by rw [inv_one]; rfl)
  | coe r =>
    have hp : ∀ s : ℝ, 1 + Real.exp s ≠ 0 := fun s => by positivity
    rw [logistic_coe, en_coe, ← EReal.coe_mul, ← EReal.coe_one, ← EReal.coe_add, EReal.coe_one, div_one_coe (hp _), ← EReal.coe_mul]
    by_cases h : 0 ≤ r
    · rw [if_pos (by exact_mod_cast mul_nonneg h lam_pos.le), abs_of_nonneg h]
    · have h' : r < 0 := not_le.1 h
      rw [if_neg (by rw [not_le]; exact_mod_cast mul_neg_of_neg_of_pos h' lam_pos), abs_of_neg h', neg_neg]
      congr 1
      rw [Real.exp_neg]
      have := Real.exp_pos r
      field_simp
      ring

/-- One where the bit is set. -/
def pb (p : BitVec 1) : EReal := if p = 1 then 1 else 0

/-- The kernel's gradient is the sigmoid less the bit. -/
theorem cG_lam (p : BitVec 1) (x : EReal) : cG p (x * (lam : ℝ)) = Ideal.logistic x - pb p := by
  unfold cG
  rw [cE_lam, cA_lam, ← en_cA p x, cS_lam]
  unfold cA Scalar.select pb
  split
  · exact logistic_zero_sub x
  · rw [sub_zero]

/-- A sum times a real that is not negative. -/
theorem sum_mul_real {ι : Type} [Fintype ι] (f : ι → EReal) {c : ℝ} (hc : 0 ≤ c) : (∑ i, f i) * (c : EReal) = ∑ i, f i * (c : EReal) := by
  classical
  refine Finset.induction_on (motive := fun s => (∑ i ∈ s, f i) * (c : EReal) = ∑ i ∈ s, f i * (c : EReal)) Finset.univ (by simp) fun a s ha ih => ?_
  rw [Finset.sum_insert ha, Finset.sum_insert ha, EReal.right_distrib_of_nonneg_of_ne_top (by exact_mod_cast hc) (EReal.coe_ne_top c), ih]

theorem add_mul_lam (a b : EReal) : (a + b) * (lam : ℝ) = a * (lam : ℝ) + b * (lam : ℝ) :=
  EReal.right_distrib_of_nonneg_of_ne_top (by exact_mod_cast lam_pos.le) (EReal.coe_ne_top lam) a b

/-- One plus the running product of the `1 + e`, as the exponential of the sum of the logs. -/
theorem log1p_step {q e : ℝ} (hq : 0 ≤ q) (he : 0 ≤ e) : Ideal.log1p ((q : EReal) * (1 + (e : EReal)) + (e : EReal)) = Ideal.log1p (q : EReal) + Ideal.log1p (e : EReal) := by
  have L : ∀ {s : ℝ}, 0 ≤ s → Ideal.log1p (s : EReal) = ((Real.log (1 + s) : ℝ) : EReal) := fun {s} hs => by
    unfold Ideal.log1p
    rw [← EReal.coe_one, ← EReal.coe_add]
    exact if_neg (by linarith)
  rw [← EReal.coe_one, ← EReal.coe_add, ← EReal.coe_mul, ← EReal.coe_add, L (by positivity), L hq, L he, ← EReal.coe_add,
    ← Real.log_mul (by positivity) (by positivity)]
  congr 2
  ring

/-- Strips of columns: the sum over lanes of the sums over strips is the sum over the columns. -/
theorem sum_strips (f : Fin 2048 → EReal) : ∑ l : Fin 128, ∑ n : Fin 16, f (Blk.jx n.val l) = ∑ j : Fin 2048, f j := by
  rw [Finset.sum_comm]
  refine Fin.sum_mul_add_congr (S := 16) (n := 128) fun n l hl => congrArg f (Fin.ext ?_)
  show 128 * (n.val % 16) + l.val = n.val * 128 + l.val
  have := n.isLt
  omega

end Cert.KernelIdeal.Hand

end
-- ==== Proof.Hand.Spec.lean ====
/- The problem's mathematics, entry by entry: the logits, the loss and its gradients, as functions of the inputs. -/
module

public import proofs.«01_k».proof.Proof.Hand.Math
public import proofs.«01_k».proof.Proof.Hand.Point

@[expose] public section

noncomputable section

namespace Cert.KernelIdeal.Hand

open Idealize.ShloMosaic

namespace In

variable (I : In)

/-- The temperature times the scaled product of row `i` of `x` and row `j` of `y`. -/
def T (k : Fin 2) (i j : Fin 2048) : EReal := Ideal.exp I.tp * ((∑ d : Fin 768, I.x k i d * I.y k j d) * I.xs k i * I.ys k j)
/-- The logit. -/
def L (k : Fin 2) (i j : Fin 2048) : EReal := I.T k i j + I.b
/-- Whether the pair is a positive one. -/
def P (k : Fin 2) (i j : Fin 2048) : BitVec 1 := cP (I.ids k i) (I.ids k j)
/-- The derivative of the loss in the logit, over the length. -/
def G (k : Fin 2) (i j : Fin 2048) : EReal := (Ideal.logistic (I.L k i j) - pb (I.P k i j)) * ((2048⁻¹ : ℝ) : EReal)
/-- The loss of a pair. -/
def loss1 (k : Fin 2) (i j : Fin 2048) : EReal := max (cA (I.P k i j) (I.L k i j)) 0 + Ideal.log1p (en (cA (I.P k i j) (I.L k i j)))
/-- The loss of a row. -/
def loss (k : Fin 2) (i : Fin 2048) : EReal := ∑ j : Fin 2048, I.loss1 k i j
/-- The derivative in the temperature's log, a row's term. -/
def dt (k : Fin 2) (i : Fin 2048) : EReal := ∑ j : Fin 2048, I.G k i j * I.T k i j
/-- The derivative in the bias, a row's term. -/
def db (k : Fin 2) (i : Fin 2048) : EReal := ∑ j : Fin 2048, I.G k i j
/-- The gradient in `x`. -/
def dx (k : Fin 2) (i : Fin 2048) (d : Fin 768) : EReal := Ideal.exp I.tp * ∑ j : Fin 2048, I.G k i j * (I.y k j d * I.ys k j)
/-- The gradient in `y`. -/
def dy (k : Fin 2) (j : Fin 2048) (d : Fin 768) : EReal := Ideal.exp I.tp * ∑ i : Fin 2048, I.G k i j * (I.x k i d * I.xs k i)

end In

end Cert.KernelIdeal.Hand

end
-- ==== Proof.Hand.Sums.lean ====
/- The kernel's numbers are the problem's: each running sum is a sum over its strips or blocks, and the constants go through the sums. -/
module

public import proofs.«01_k».proof.Proof.Hand.Spec

@[expose] public section

noncomputable section

namespace Cert.KernelIdeal.Hand

open Cert.KernelIdeal.Gen
open Idealize.ShloMosaic

variable (I : In) (k : Fin 2) (q : ℕ) (r : Fin 256)

theorem blk_td (j : Fin 2048) : (blk I k q).td r j = I.T k (jr q r) j * (lam : ℝ) := by
  show (∑ d : Fin 768, I.x k (jr q r) d * I.y k j d) * (I.xs k (jr q r) * (Ideal.exp I.tp * Named.named (F := Ideal) κ "log2e" (φ := .f32) 0x3FB8AA3B#32)) * I.ys k j = _
  rw [named_log2e]
  unfold In.T
  generalize (∑ d : Fin 768, I.x k (jr q r) d * I.y k j d) = R
  ac_rfl

theorem blk_lg (j : Fin 2048) : (blk I k q).lg r j = I.L k (jr q r) j * (lam : ℝ) := by
  show (blk I k q).td r j + I.b * Named.named (F := Ideal) κ "log2e" (φ := .f32) 0x3FB8AA3B#32 = _
  rw [blk_td, named_log2e, In.L, add_mul_lam]

/-- The gradient in the logit, before the division by the length. -/
def D (j : Fin 2048) (i : Fin 2048) : EReal := Ideal.logistic (I.L k i j) - pb (I.P k i j)

theorem blk_g (j : Fin 2048) : (blk I k q).g r j = D I k j (jr q r) := by
  unfold Blk.g
  rw [blk_lg, cG_lam]
  rfl

theorem aMax_eq (l : Fin 128) (n : ℕ) : (blk I k q).aMax r l n * ((Real.log 2 : ℝ) : EReal)
    = ∑ s ∈ Finset.range n, max (cA (I.P k (jr q r) (Blk.jx s l)) (I.L k (jr q r) (Blk.jx s l))) 0 := by
  induction n with
  | zero => exact zero_mul _
  | succ n ih =>
    rw [Finset.sum_range_succ, ← ih, Blk.aMax, EReal.right_distrib_of_nonneg_of_ne_top (by exact_mod_cast log2_pos.le) (EReal.coe_ne_top _), blk_lg, cA_lam, max_lam]
    rfl

theorem aQ_eq (l : Fin 128) (n : ℕ) : ∃ a : ℝ, 0 ≤ a ∧ (blk I k q).aQ r l n = (a : EReal)
    ∧ Ideal.log1p (a : EReal) = ∑ s ∈ Finset.range n, Ideal.log1p (en (cA (I.P k (jr q r) (Blk.jx s l)) (I.L k (jr q r) (Blk.jx s l)))) := by
  induction n with
  | zero =>
    refine ⟨0, le_rfl, rfl, ?_⟩
    show Ideal.log (1 + ((0 : ℝ) : EReal)) = 0
    rw [EReal.coe_zero, add_zero]
    show (if (1 : ℝ) ≤ 0 then (⊥ : EReal) else ((Real.log 1 : ℝ) : EReal)) = 0
    rw [if_neg (by norm_num), Real.log_one, EReal.coe_zero]
  | succ n ih =>
    obtain ⟨a, ha, hq, hl⟩ := ih
    obtain ⟨e, he, hE⟩ := en_real (I.L k (jr q r) (Blk.jx n l))
    refine ⟨a * (1 + e) + e, by positivity, ?_, ?_⟩
    · rw [Blk.aQ, hq, blk_lg, cE_lam, hE, EReal.coe_add, EReal.coe_mul, EReal.coe_add, EReal.coe_one]
    · rw [Finset.sum_range_succ, ← hl, en_cA, hE, ← log1p_step ha he, EReal.coe_add, EReal.coe_mul, EReal.coe_add, EReal.coe_one]

theorem loss_eq : (blk I k q).loss r = I.loss k (jr q r) := by
  unfold Blk.loss In.loss
  rw [← sum_strips]
  refine Finset.sum_congr rfl fun l _ => ?_
  obtain ⟨a, ha, hq, hl⟩ := aQ_eq I k q r l 16
  rw [named_ln2, aMax_eq, hq, hl, ← Finset.sum_add_distrib, Finset.sum_range]
  rfl

theorem aDt_eq (l : Fin 128) (n : ℕ) : (blk I k q).aDt r l n = ∑ s ∈ Finset.range n, D I k (Blk.jx s l) (jr q r) * (I.T k (jr q r) (Blk.jx s l) * (lam : ℝ)) := by
  induction n with
  | zero => rfl
  | succ n ih => rw [Finset.sum_range_succ, ← ih, Blk.aDt, blk_g, blk_td]

theorem aDb_eq (l : Fin 128) (n : ℕ) : (blk I k q).aDb r l n = ∑ s ∈ Finset.range n, D I k (Blk.jx s l) (jr q r) := by
  induction n with
  | zero => rfl
  | succ n ih => rw [Finset.sum_range_succ, ← ih, Blk.aDb, blk_g]

theorem lam_log2 : ((lam : ℝ) : EReal) * ((Real.log 2 : ℝ) : EReal) = 1 := by
  rw [← EReal.coe_mul, lam, inv_mul_cancel₀ log2_pos.ne', EReal.coe_one]

theorem dt_eq : (blk I k q).dt r = I.dt k (jr q r) := by
  unfold Blk.dt In.dt
  rw [named_ln2_inv_s, show ∑ l : Fin 128, (blk I k q).aDt r l 16 = ∑ j : Fin 2048, D I k j (jr q r) * (I.T k (jr q r) j * (lam : ℝ)) from ?_,
    sum_mul_real _ (mul_nonneg log2_pos.le (by norm_num))]
  · refine Finset.sum_congr rfl fun j _ => ?_
    show _ = D I k j (jr q r) * ((2048⁻¹ : ℝ) : EReal) * I.T k (jr q r) j
    rw [EReal.coe_mul, ← mul_one (_ * I.T k (jr q r) j), ← lam_log2]
    ac_rfl
  · rw [← sum_strips]
    exact Finset.sum_congr rfl fun l _ => by rw [aDt_eq, Finset.sum_range]

theorem db_eq : (blk I k q).db r = I.db k (jr q r) := by
  unfold Blk.db In.db
  rw [inv_s, show ∑ l : Fin 128, (blk I k q).aDb r l 16 = ∑ j : Fin 2048, D I k j (jr q r) from ?_, sum_mul_real _ (by norm_num)]
  · rfl
  · rw [← sum_strips]
    exact Finset.sum_congr rfl fun l _ => by rw [aDb_eq, Finset.sum_range]

/-- The factor of both gradients, as the temperature times the reciprocal of the length. -/
theorem mul_tS (f : Fin 2048 → EReal) : (∑ j, f j) * tS I = Ideal.exp I.tp * ∑ j, f j * ((2048⁻¹ : ℝ) : EReal) := by
  unfold tS
  rw [inv_s, ← sum_mul_real f (by norm_num)]
  ac_rfl

theorem dx_eq (d : Fin 768) : dxS I k q (ix3 0 r d) = I.dx k (jr q r) d := by
  show (∑ j : Fin 2048, (blk I k q).g r j * (I.y k j d * I.ys k j)) * tS I = Ideal.exp I.tp * ∑ j : Fin 2048, D I k j (jr q r) * ((2048⁻¹ : ℝ) : EReal) * (I.y k j d * I.ys k j)
  rw [mul_tS]
  refine congrArg (Ideal.exp I.tp * ·) (Finset.sum_congr rfl fun j _ => ?_)
  rw [blk_g]
  ac_rfl

theorem dyS_eq (d : Fin 768) (j : Fin 2048) (n : ℕ) : dyS I k n (ix2 d j) = ∑ s ∈ Finset.range n, ∑ r : Fin 256, (I.x k (jr s r) d * I.xs k (jr s r)) * D I k j (jr s r) := by
  induction n with
  | zero =>
    show zArr (ix2 d j) = 0
    rfl
  | succ n ih =>
    rw [Finset.sum_range_succ, ← ih]
    show dyS I k n (ix2 d j) + (∑ r : Fin 256, (I.x k (jr n r) d * I.xs k (jr n r)) * (blk I k n).g r j) = _
    exact congrArg _ (Finset.sum_congr rfl fun r _ => by rw [blk_g])

theorem dy_eq (j : Fin 2048) (d : Fin 768) : dyF I k (ix3 0 j d) = I.dy k j d := by
  show dyS I k 8 (ix2 d j) * tS I = Ideal.exp I.tp * ∑ i : Fin 2048, D I k j i * ((2048⁻¹ : ℝ) : EReal) * (I.x k i d * I.xs k i)
  rw [dyS_eq, Finset.sum_range, show (∑ s : Fin 8, ∑ r : Fin 256, (I.x k (jr s.val r) d * I.xs k (jr s.val r)) * D I k j (jr s.val r) : EReal)
    = ∑ i : Fin 2048, (I.x k i d * I.xs k i) * D I k j i from
      Fin.sum_mul_add_congr (S := 8) (n := 256) (f := fun i : Fin 2048 => (I.x k i d * I.xs k i) * D I k j i) fun s r hl => by
        have e : jr s.val r = ⟨s.val * 256 + r.val, hl⟩ := Fin.ext (by show 256 * (s.val % 8) + r.val = s.val * 256 + r.val; have := s.isLt; omega)
        rw [e], mul_tS]
  exact congrArg (Ideal.exp I.tp * ·) (Finset.sum_congr rfl fun i _ => by ac_rfl)

/-- The block and the row of it of a row of the batch. -/
theorem jr_split (s : Fin 2048) : jr (s.val / 256) ⟨s.val % 256, Nat.mod_lt _ (by decide)⟩ = s :=
  Fin.ext (by show 256 * (s.val / 256 % 8) + s.val % 256 = s.val; have := s.isLt; omega)

theorem rowS_eq (n : Fin 3) (s : Fin 2048) : rowS I k n s = if n.val = 0 then I.loss k s else if n.val = 1 then I.dt k s else I.db k s := by
  unfold rowS
  rw [rowsArr_at _ _ _ ⟨s.val % 256, Nat.mod_lt _ (by decide)⟩ (by show s.val = 256 * (s.val / 256) + s.val % 256; omega), loss_eq, dt_eq, db_eq, jr_split]
  rfl

end Cert.KernelIdeal.Hand

end
-- ==== Proof.Hand.Ref.lean ====
/- What the reference's five result arrays hold: the problem's mathematics, entry by entry. -/
module

public import proofs.«01_k».proof.Proof.Gen.ReferenceIdeal.Value
public import proofs.«01_k».proof.Proof.Hand.Spec
public import Idealize.ShloMosaic.Lib.Pipeline.ValueKit

@[expose] public section

set_option maxRecDepth 16384

noncomputable section

namespace Cert.ReferenceIdeal.Hand

open Cert.ReferenceIdeal.Gen
open Cert.KernelIdeal.Hand (In cA en ab pb cP inv_s)
open Idealize.ShloMosaic Idealize.ShloMosaic.TcCoe Idealize.ShloMosaic.Tactic
open Idealize.SL Idealize.SL.Sem
open Idealize.ShloMosaic.Pipeline (Dat Cfg Window)

/-- What the reference's blocks are, by the inputs. -/
structure At (I : In) (x0 : Vec Ideal S2x2048x768 .fp8e4m3) (x1 : Vec Ideal S2x2048 .f32) (x2 : Vec Ideal S2x2048x768 .fp8e4m3) (x3 : Vec Ideal S2x2048 .f32)
    (x4 : Vec Ideal S2x2048 .i32) (x5 : Vec Ideal S1x1 .f32) (x6 : Vec Ideal S1x1 .f32) : Prop where
  x : ∀ k s d, x0 (ix3 k s d) = I.x k s d
  xs : ∀ k s, x1 (ix2 k s) = I.xs k s
  y : ∀ k s d, x2 (ix3 k s d) = I.y k s d
  ys : ∀ k s, x3 (ix2 k s) = I.ys k s
  ids : ∀ k s, x4 (ix2 k s) = I.ids k s
  tp : x5 (ix2 0 0) = I.tp
  b : x6 (ix2 0 0) = I.b

/-- The bit, widened and read as a number. -/
theorem sitofp_bit (p : BitVec 1) : FloatOps.sitofp (F := Ideal) FTy.f32 (BitVec.setWidth 32 p) = pb p := by
  show (((BitVec.setWidth 32 p).toInt : ℝ) : EReal) = _
  rcases (by decide +revert : p = 0 ∨ p = 1) with rfl | rfl
  · rw [show (BitVec.setWidth 32 (0 : BitVec 1)).toInt = 0 by decide]
    simp [pb]
  · rw [show (BitVec.setWidth 32 (1 : BitVec 1)).toInt = 1 by decide]
    simp [pb]

/-- Minus one. -/
theorem ofBits_neg_one : Ideal.ofBits FTy.f32 3212836864#32 = -1 := by
  rw [show Ideal.ofBits .f32 3212836864#32 = Ideal.ieee 8 23 3212836864#32 from rfl]
  unfold Ideal.ieee
  norm_num [zpow_neg, Nat.shiftRight_eq_div_pow, show BitVec.extractLsb' 31 1 3212836864#32 = 1#1 by decide]

/-- Minus the sign times the logit is the turned logit. -/
theorem turn (p : BitVec 1) (l : EReal) : (0 - Scalar.select p (1 : EReal) (Ideal.ofBits FTy.f32 3212836864#32)) * l = cA p l := by
  rw [ofBits_neg_one]
  unfold Scalar.select cA Scalar.select
  split
  · rw [zero_sub, EReal.neg_mul, one_mul, zero_sub]
  · rw [zero_sub, neg_neg, one_mul]

variable {I : In} {x0 : Vec Ideal S2x2048x768 .fp8e4m3} {x1 : Vec Ideal S2x2048 .f32} {x2 : Vec Ideal S2x2048x768 .fp8e4m3} {x3 : Vec Ideal S2x2048 .f32}
    {x4 : Vec Ideal S2x2048 .i32} {x5 : Vec Ideal S1x1 .f32} {x6 : Vec Ideal S1x1 .f32} (h : At I x0 x1 x2 x3 x4 x5 x6)
include h

theorem pay4_at (k : Fin 2) (i j : Fin 2048) : k0_pay4 (F := Ideal) x0 x2 x1 x3 x5 (ix3 k i j) = I.T k i j := by
  pointwise [k0_pay4, k0_pay1]
  have hs : (∑ d : Fin 768, x0 (ix3 k i d) * x2 (ix3 k j d) : EReal) = ∑ d : Fin 768, I.x k i d * I.y k j d := Finset.sum_congr rfl fun d _ => by rw [h.x, h.y]
  rw [h.tp, h.xs, h.ys]
  exact congrArg (fun z : EReal => Ideal.exp I.tp * (z * I.xs k i * I.ys k j)) hs

theorem pay5_at (k : Fin 2) (i j : Fin 2048) : k0_pay5 (F := Ideal) x0 x2 x1 x3 x6 x5 (ix3 k i j) = I.L k i j := by
  pointwise [k0_pay5]
  rw [pay4_at h, h.b]
  rfl

theorem pay6_at (k : Fin 2) (i j : Fin 2048) : k0_pay6 (F := Ideal) x4 (ix3 k i j) = I.P k i j := by
  pointwise [k0_pay6]
  rw [h.ids, h.ids]
  rfl

theorem pay10_at (k : Fin 2) (i j : Fin 2048) : k0_pay10 (F := Ideal) (k0_pay5 (F := Ideal) x0 x2 x1 x3 x6 x5) (k0_pay6 (F := Ideal) x4) (ix3 k i j) = I.G k i j := by
  pointwise [k0_pay10]
  rw [pay5_at h, pay6_at h, inv_s, sitofp_bit]
  rfl

theorem pay11_at (k : Fin 2) (i : Fin 2048) : k0_pay11 (F := Ideal) (k0_pay4 (F := Ideal) x0 x2 x1 x3 x5) (k0_pay5 (F := Ideal) x0 x2 x1 x3 x6 x5) (k0_pay6 (F := Ideal) x4) (ix2 k i) = I.dt k i := by
  pointwise [k0_pay11]
  show (∑ j : Fin 2048, k0_pay10 (F := Ideal) (k0_pay5 (F := Ideal) x0 x2 x1 x3 x6 x5) (k0_pay6 (F := Ideal) x4) (ix3 k i j) * k0_pay4 (F := Ideal) x0 x2 x1 x3 x5 (ix3 k i j) : EReal) = ∑ j : Fin 2048, I.G k i j * I.T k i j
  exact Finset.sum_congr rfl fun j _ => by rw [pay10_at h, pay4_at h]

theorem pay9_at (k : Fin 2) (i : Fin 2048) : k0_pay9 (F := Ideal) (k0_pay5 (F := Ideal) x0 x2 x1 x3 x6 x5) (k0_pay7 (F := Ideal) x4) (k0_pay8 (F := Ideal)) (ix2 k i) = I.loss k i := by
  pointwise [k0_pay9, k0_pay7, k0_pay8]
  unfold In.loss
  refine Finset.sum_congr rfl fun j _ => ?_
  rw [if_neg (fun hne => hne rfl)]
  have e : (0 - Scalar.select (k0_pay6 (F := Ideal) x4 (ix3 k i j)) (1 : EReal) (Ideal.ofBits FTy.f32 3212836864#32)) * k0_pay5 (F := Ideal) x0 x2 x1 x3 x6 x5 (ix3 k i j) = cA (I.P k i j) (I.L k i j) := by
    rw [pay5_at h, pay6_at h, turn]
  exact congrArg (fun v : EReal => max v 0 + Ideal.log1p (en v)) e

theorem pay12_at (k : Fin 2) (i : Fin 2048) : k0_pay12 (F := Ideal) (k0_pay5 (F := Ideal) x0 x2 x1 x3 x6 x5) (k0_pay6 (F := Ideal) x4) (ix2 k i) = I.db k i := by
  pointwise [k0_pay12]
  show (∑ j : Fin 2048, k0_pay10 (F := Ideal) (k0_pay5 (F := Ideal) x0 x2 x1 x3 x6 x5) (k0_pay6 (F := Ideal) x4) (ix3 k i j) : EReal) = ∑ j : Fin 2048, I.G k i j
  exact Finset.sum_congr rfl fun j _ => pay10_at h k i j

theorem pay14_at (k : Fin 2) (i : Fin 2048) (d : Fin 768) : k0_pay14 (F := Ideal) (k0_pay1 (F := Ideal) x5) (k0_pay3 (F := Ideal) x2 x3) (k0_pay5 (F := Ideal) x0 x2 x1 x3 x6 x5) (k0_pay6 (F := Ideal) x4) (ix3 k i d) = I.dx k i d := by
  pointwise [k0_pay14, k0_pay13, k0_pay1, k0_pay3]
  rw [h.tp]
  show Ideal.exp I.tp * (∑ j : Fin 2048, k0_pay10 (F := Ideal) (k0_pay5 (F := Ideal) x0 x2 x1 x3 x6 x5) (k0_pay6 (F := Ideal) x4) (ix3 k i j) * (x2 (ix3 k j d) * x3 (ix2 k j)) : EReal) = Ideal.exp I.tp * ∑ j : Fin 2048, I.G k i j * (I.y k j d * I.ys k j)
  exact congrArg (Ideal.exp I.tp * ·) (Finset.sum_congr rfl fun j _ => by rw [pay10_at h, h.y, h.ys])

theorem pay15_at (k : Fin 2) (i : Fin 2048) (d : Fin 768) : k0_pay15 (F := Ideal) (k0_pay1 (F := Ideal) x5) (k0_pay2 (F := Ideal) x0 x1) (k0_pay5 (F := Ideal) x0 x2 x1 x3 x6 x5) (k0_pay6 (F := Ideal) x4) (ix3 k i d) = I.dy k i d := by
  pointwise [k0_pay15, k0_pay13, k0_pay1, k0_pay2]
  rw [h.tp]
  show Ideal.exp I.tp * (∑ j : Fin 2048, k0_pay10 (F := Ideal) (k0_pay5 (F := Ideal) x0 x2 x1 x3 x6 x5) (k0_pay6 (F := Ideal) x4) (ix3 k j i) * (x0 (ix3 k j d) * x1 (ix2 k j)) : EReal) = Ideal.exp I.tp * ∑ j : Fin 2048, I.G k j i * (I.x k j d * I.xs k j)
  exact congrArg (Ideal.exp I.tp * ·) (Finset.sum_congr rfl fun j _ => by rw [pay10_at h, h.x, h.xs])

end Cert.ReferenceIdeal.Hand

end
-- ==== Proof.Hand.RefRun.lean ====
/- The run of the reference: every result array ends holding the problem's mathematics. -/
module

public import proofs.«01_k».proof.Proof.Hand.Ref

@[expose] public section

set_option maxRecDepth 16384

noncomputable section

namespace Cert.ReferenceIdeal.Hand

open Cert.ReferenceIdeal.Gen
open Cert.KernelIdeal.Hand (In)
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The inputs of the reference on a core, as the memory at launch holds them. -/
def inOf (c : Dev nD) : In where
  x k s d := (V m c main_arg0 : Vec Ideal S2x2048x768 .fp8e4m3) (ix3 k s d)
  y k s d := (V m c main_arg2 : Vec Ideal S2x2048x768 .fp8e4m3) (ix3 k s d)
  xs k s := (V m c main_arg1 : Vec Ideal S2x2048 .f32) (ix2 k s)
  ys k s := (V m c main_arg3 : Vec Ideal S2x2048 .f32) (ix2 k s)
  ids k s := (V m c main_arg4 : Vec Ideal S2x2048 .i32) (ix2 k s)
  tp := (V m c main_v0 : Vec Ideal S1x1 .f32) (ix2 0 0)
  b := (V m c main_v1 : Vec Ideal S1x1 .f32) (ix2 0 0)

theorem idx0 : ∀ t : Fin cfg0.N, win0_0.index t = ![0, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)

/-- At the one point the windows' blocks are the inputs. -/
theorem at_pt (c : Dev nD) (t : Fin cfg0.N) : At (inOf m c) (iblk m c 0 t) (iblk m c 1 t) (iblk m c 2 t) (iblk m c 3 t) (iblk m c 4 t) (iblk m c 5 t) (iblk m c 6 t) where
  x k s d := by
    show _ = (V m c main_arg0 : Vec Ideal S2x2048x768 .fp8e4m3) (ix3 k s d)
    blk_ext [iblk, idx0]
  xs k s := by
    show _ = (V m c main_arg1 : Vec Ideal S2x2048 .f32) (ix2 k s)
    blk_ext [iblk, idx1]
  y k s d := by
    show _ = (V m c main_arg2 : Vec Ideal S2x2048x768 .fp8e4m3) (ix3 k s d)
    blk_ext [iblk, idx2]
  ys k s := by
    show _ = (V m c main_arg3 : Vec Ideal S2x2048 .f32) (ix2 k s)
    blk_ext [iblk, idx3]
  ids k s := by
    show _ = (V m c main_arg4 : Vec Ideal S2x2048 .i32) (ix2 k s)
    blk_ext [iblk, idx4]
  tp  := by
    show _ = (V m c main_v0 : Vec Ideal S1x1 .f32) (ix2 0 0)
    blk_ext [iblk, idx5]
  b  := by
    show _ = (V m c main_v1 : Vec Ideal S1x1 .f32) (ix2 0 0)
    blk_ext [iblk, idx6]

/-- The loss rows. -/
def lossArr (I : In) : Vec Ideal S2x2048 .f32 := fun y => I.loss (y 0) (y 1)

theorem arr7 (c : Dev nD) : (dats m 0 c).arrAt 7 cfg0.N = lossArr (inOf m c) := by
  refine Dat.arrAt_eq_of_covers _ 7 _ (by decide +kernel : (cfg0.win 7).Covers) fun t hf y => ?_
  have e : (((cfg0.win 7).blk t).view.emb y : S2x2048.Idx) = ix2 (y 0 : Fin 2) (y 1 : Fin 2048) := by blk_ext [idx7]
  refine Eq.trans ?_ (congrArg (lossArr (inOf m c)) e).symm
  refine Eq.trans ?_ (pay9_at (at_pt m c t) (y 0) (y 1))
  blk_simp
  rw [after0_7]
  unfold_out out0_7
  frame_out
  exact congrArg _ (by idx_ext)

/-- The gradient in `x`. -/
def dxArr (I : In) : Vec Ideal S2x2048x768 .bf16 := fun y => I.dx (y 0) (y 1) (y 2)

theorem arr8 (c : Dev nD) : (dats m 0 c).arrAt 8 cfg0.N = dxArr (inOf m c) := by
  refine Dat.arrAt_eq_of_covers _ 8 _ (by decide +kernel : (cfg0.win 8).Covers) fun t hf y => ?_
  have e : (((cfg0.win 8).blk t).view.emb y : S2x2048x768.Idx) = ix3 (y 0 : Fin 2) (y 1 : Fin 2048) (y 2 : Fin 768) := by blk_ext [idx8]
  refine Eq.trans ?_ (congrArg (dxArr (inOf m c)) e).symm
  refine Eq.trans ?_ (pay14_at (at_pt m c t) (y 0) (y 1) (y 2))
  blk_simp
  rw [after0_8]
  unfold_out out0_8
  frame_out
  exact congrArg _ (by idx_ext)

/-- The gradient in `y`. -/
def dyArr (I : In) : Vec Ideal S2x2048x768 .bf16 := fun y => I.dy (y 0) (y 1) (y 2)

theorem arr9 (c : Dev nD) : (dats m 0 c).arrAt 9 cfg0.N = dyArr (inOf m c) := by
  refine Dat.arrAt_eq_of_covers _ 9 _ (by decide +kernel : (cfg0.win 9).Covers) fun t hf y => ?_
  have e : (((cfg0.win 9).blk t).view.emb y : S2x2048x768.Idx) = ix3 (y 0 : Fin 2) (y 1 : Fin 2048) (y 2 : Fin 768) := by blk_ext [idx9]
  refine Eq.trans ?_ (congrArg (dyArr (inOf m c)) e).symm
  refine Eq.trans ?_ (pay15_at (at_pt m c t) (y 0) (y 1) (y 2))
  blk_simp
  rw [after0_9]
  unfold_out out0_9
  frame_out
  exact congrArg _ (by idx_ext)

/-- The rows of the derivative in the temperature. -/
def dtArr (I : In) : Vec Ideal S2x2048 .f32 := fun y => I.dt (y 0) (y 1)

theorem arr10 (c : Dev nD) : (dats m 0 c).arrAt 10 cfg0.N = dtArr (inOf m c) := by
  refine Dat.arrAt_eq_of_covers _ 10 _ (by decide +kernel : (cfg0.win 10).Covers) fun t hf y => ?_
  have e : (((cfg0.win 10).blk t).view.emb y : S2x2048.Idx) = ix2 (y 0 : Fin 2) (y 1 : Fin 2048) := by blk_ext [idx10]
  refine Eq.trans ?_ (congrArg (dtArr (inOf m c)) e).symm
  refine Eq.trans ?_ (pay11_at (at_pt m c t) (y 0) (y 1))
  blk_simp
  rw [after0_10]
  unfold_out out0_10
  frame_out
  exact congrArg _ (by idx_ext)

/-- The rows of the derivative in the bias. -/
def dbArr (I : In) : Vec Ideal S2x2048 .f32 := fun y => I.db (y 0) (y 1)

theorem arr11 (c : Dev nD) : (dats m 0 c).arrAt 11 cfg0.N = dbArr (inOf m c) := by
  refine Dat.arrAt_eq_of_covers _ 11 _ (by decide +kernel : (cfg0.win 11).Covers) fun t hf y => ?_
  have e : (((cfg0.win 11).blk t).view.emb y : S2x2048.Idx) = ix2 (y 0 : Fin 2) (y 1 : Fin 2048) := by blk_ext [idx11]
  refine Eq.trans ?_ (congrArg (dbArr (inOf m c)) e).symm
  refine Eq.trans ?_ (pay12_at (at_pt m c t) (y 0) (y 1))
  blk_simp
  rw [after0_11]
  unfold_out out0_11
  frame_out
  exact congrArg _ (by idx_ext)

/-- The run of the reference, every result array named and the arguments unchanged. -/
theorem values : θ_run defs (onTc (τ := τ) (main (F := Ideal))) ⟨m, fun _ => 0, ρ⟩ (fun r => ∀ c : Dev nD,
      r.2.mem ((c.tc : Thread nD τ).loc main_v2_0) = lossArr (inOf m c)
      ∧ r.2.mem ((c.tc : Thread nD τ).loc main_v2_1) = dxArr (inOf m c)
      ∧ r.2.mem ((c.tc : Thread nD τ).loc main_v2_2) = dyArr (inOf m c)
      ∧ r.2.mem ((c.tc : Thread nD τ).loc main_v2_3) = dtArr (inOf m c)
      ∧ r.2.mem ((c.tc : Thread nD τ).loc main_v2_4) = dbArr (inOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (Cert.ReferenceIdeal.Value.run_blocks m ρ)
  obtain ⟨h0, h1, h2, h3, h4, h5⟩ := h c
  exact ⟨h0.trans (arr7 m c), h1.trans (arr8 m c), h2.trans (arr9 m c), h3.trans (arr10 m c), h4.trans (arr11 m c), h5⟩

end Cert.ReferenceIdeal.Hand

end
-- ==== Proof.Hand.Algebraic.lean ====
/- The kernel and the reference, from equal arguments, end with equal results. -/
module

public import proofs.«01_k».proof.Defs
public import proofs.«01_k».proof.Proof.Hand.Arrays
public import proofs.«01_k».proof.Proof.Hand.Sums
public import proofs.«01_k».proof.Proof.Hand.RefRun

@[expose] public section

noncomputable section

namespace Cert.KernelIdeal.Hand

open Idealize.ShloMosaic Idealize.ShloMosaic.TcCoe Idealize.ShloMosaic.Tactic
open Idealize.SL Idealize.SL.Sem

theorem kLoss (I : In) : kRow I 0 = Cert.ReferenceIdeal.Hand.lossArr I := funext fun y => (rowS_eq I (y 0) 0 (y 1)).trans (if_pos rfl)
theorem kDt (I : In) : kRow I 1 = Cert.ReferenceIdeal.Hand.dtArr I :=
  funext fun y => (rowS_eq I (y 0) 1 (y 1)).trans ((if_neg (by decide)).trans (if_pos rfl))
theorem kDb (I : In) : kRow I 2 = Cert.ReferenceIdeal.Hand.dbArr I :=
  funext fun y => (rowS_eq I (y 0) 2 (y 1)).trans ((if_neg (by decide)).trans (if_neg (by decide)))
theorem kDx_eq (I : In) : kDx I = Cert.ReferenceIdeal.Hand.dxArr I := funext fun y =>
  (dx_eq I (y 0) ((y 1).val / 256) ⟨(y 1).val % 256, Nat.mod_lt _ (by decide)⟩ (y 2)).trans (congrArg (fun s => I.dx (y 0) s (y 2)) (jr_split (y 1)))
theorem kDy_eq (I : In) : kDy I = Cert.ReferenceIdeal.Hand.dyArr I := funext fun y => dy_eq I (y 0) (y 1) (y 2)

/-- Equal arguments are equal inputs. -/
theorem inOf_eq (m : (ℓ : Loc nD τ sig) → Buf (Elt Ideal) ℓ) (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6)) :
    Cert.ReferenceIdeal.Hand.inOf m' c = inOf m c := by
  unfold Cert.ReferenceIdeal.Hand.inOf inOf
  congr 1
  · funext k s d
    rw [Cert.ReferenceIdeal.Gen.V_main_arg0, Cert.KernelIdeal.Gen.V_main_arg0, h0]
  · funext k s d
    rw [Cert.ReferenceIdeal.Gen.V_main_arg2, Cert.KernelIdeal.Gen.V_main_arg2, h2]
  · funext k s
    rw [Cert.ReferenceIdeal.Gen.V_main_arg1, Cert.KernelIdeal.Gen.V_main_arg1, h1]
  · funext k s
    rw [Cert.ReferenceIdeal.Gen.V_main_arg3, Cert.KernelIdeal.Gen.V_main_arg3, h3]
  · funext k s
    rw [Cert.ReferenceIdeal.Gen.V_main_arg4, Cert.KernelIdeal.Gen.V_main_arg4, h4]
  · entry_read
    rw [h5]
    rfl
  · entry_read
    rw [h6]
    rfl

/-- The value claim. -/
theorem algebraic : @Cert.algebraic_KernelIdeal_ReferenceIdeal Cert.KernelIdeal.Gen.facts Cert.ReferenceIdeal.Gen.facts := by
  intro m g m' g' _ h
  refine ⟨fun c => kRow (inOf m c) 0, fun c => kDx (inOf m c), fun c => kDy (inOf m c), fun c => kRow (inOf m c) 1, fun c => kRow (inOf m c) 2, values m g, ?_⟩
  refine (θ_run _ _ _).mono (fun r hr c => ?_) (Cert.ReferenceIdeal.Hand.values m' g')
  obtain ⟨a0, a1, a2, a3, a4, ha⟩ := hr c
  obtain ⟨h0, h1, h2, h3, h4, h5, h6⟩ := h c
  have e := inOf_eq m m' c h0 h1 h2 h3 h4 h5 h6
  rw [e] at a0 a1 a2 a3 a4
  exact ⟨a0.trans (kLoss _).symm, a1.trans (kDx_eq _).symm, a2.trans (kDy_eq _).symm, a3.trans (kDt _).symm, a4.trans (kDb _).symm, ha⟩

end Cert.KernelIdeal.Hand

end
-- ==== Proof.Hand.KernelConds.lean ====
/- The body's branch conditions over the grid's points, the staging and scratch buffers by name, and the frame's post read off relational
   proof data. -/
module

public import proofs.«01_k».proof.Proof.Gen.Kernel.Frame
public import proofs.«01_k».proof.Proof.Gen.Kernel.Skeleton

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 0#32)) 0#32) = 1#1
/-- It holds at the points before point 8 — by arithmetic of the point. -/
theorem hcond0_1 : ∀ t : Fin cfg0.N, cond0_1 (grid0.coords t) ↔ t.val < 8 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val < 8)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 0).val) 1#32)) 0#32) = 1#1
/-- It holds at the points from point 8 on — by arithmetic of the point. -/
theorem hcond0_2 : ∀ t : Fin cfg0.N, cond0_2 (grid0.coords t) ↔ 8 ≤ t.val :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_2, e0, e1]
    word_cmp
   : ∀ t : Fin grid0.N, cond0_2 (grid0.coords t) ↔ 8 ≤ t.val)

/-- The condition of the body's `scf.if` 3 (`k0_h4`), from the grid coordinates (the skeleton's scalar
    chain substituted). -/
abbrev cond0_3 (i : grid0.Coords) : Prop := k0_cond4 i = 1#1
/-- It holds at the points ≡ 7 (mod 8) — by arithmetic of the point. -/
theorem hcond0_3 : ∀ t : Fin cfg0.N, cond0_3 (grid0.coords t) ↔ t.val % 8 = 7 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_3, k0_cond4, e0, e1]
    word_cmp
   : ∀ t : Fin grid0.N, cond0_3 (grid0.coords t) ↔ t.val % 8 = 7)

/-- The condition of the body's `scf.if` 4 (`k0_h5`), from the grid coordinates (the skeleton's scalar
    chain substituted). -/
abbrev cond0_4 (i : grid0.Coords) : Prop := k0_cond5 i = 1#1
/-- It holds at the points before point 8 — by arithmetic of the point. -/
theorem hcond0_4 : ∀ t : Fin cfg0.N, cond0_4 (grid0.coords t) ↔ t.val < 8 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_4, k0_cond5, e0, e1]
    word_cmp
   : ∀ t : Fin grid0.N, cond0_4 (grid0.coords t) ↔ t.val < 8)

/-- The condition of the body's `scf.if` 5 (`k0_h6`), from the grid coordinates (the skeleton's scalar
    chain substituted). -/
abbrev cond0_5 (i : grid0.Coords) : Prop := k0_cond6 i = 1#1
/-- It holds at the points from point 8 on — by arithmetic of the point. -/
theorem hcond0_5 : ∀ t : Fin cfg0.N, cond0_5 (grid0.coords t) ↔ 8 ≤ t.val :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_5, k0_cond6, e0, e1]
    word_cmp
   : ∀ t : Fin grid0.N, cond0_5 (grid0.coords t) ↔ 8 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x256x768 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x768 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x2048 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x768 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048x768 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x2048 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x2048 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S2048x768 .bf16 := Memref.whole cc0_scratch0
abbrev scM0_1 : Memref sig .tc .vmem S768x2048 .f32 := Memref.whole cc0_scratch1
abbrev scM0_2 : Memref sig .tc .vmem S256x2048 .bf16 := Memref.whole cc0_scratch2
abbrev scM0_3 : Memref sig .tc .vmem S1x2048 .f32 := Memref.whole cc0_scratch3
abbrev scM0_4 : Memref sig .tc .vmem S1x2048 .f32 := Memref.whole cc0_scratch4
abbrev scM0_5 : Memref sig .tc .vmem S1x2048 .i32 := Memref.whole cc0_scratch5
abbrev scM0_6 : Memref sig .tc .vmem S3x1x2048 .f32 := Memref.whole cc0_scratch6
/-- The scratch `arg15` the kernel carries between points, as a view: what it holds is stated through it. -/
abbrev VS0_1 : View sig .tc .vmem S768x2048 .f32 := scM0_1.view
/-- The scratch `arg17` the kernel carries between points, as a view: what it holds is stated through it. -/
abbrev VS0_3 : View sig .tc .vmem S1x2048 .f32 := scM0_3.view
/-- The scratch `arg18` the kernel carries between points, as a view: what it holds is stated through it. -/
abbrev VS0_4 : View sig .tc .vmem S1x2048 .f32 := scM0_4.view
/-- The scratch `arg19` the kernel carries between points, as a view: what it holds is stated through it. -/
abbrev VS0_5 : View sig .tc .vmem S1x2048 .i32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Kernel.Hand

end
-- ==== Proof.Hand.KernelFrame.lean ====
/- The frame of the kernel as written: its body run once at every kind of point, nothing said of what it leaves in its outputs and
   its scratch. -/
module

public import Idealize.ShloMosaic.Lib.Claim
public import proofs.«01_k».proof.Proof.Hand.KernelConds

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five kinds of point: the first of each batch, the last of each batch, and the ones between. -/
def Kind (i : grid0.Coords) : Prop :=
  (cond0_0 i ∧ cond0_1 i ∧ ¬cond0_2 i ∧ ¬cond0_3 i) ∨ (cond0_0 i ∧ ¬cond0_1 i ∧ cond0_2 i ∧ ¬cond0_3 i) ∨ (¬cond0_0 i ∧ ¬cond0_3 i)
    ∨ (¬cond0_0 i ∧ cond0_3 i ∧ cond0_4 i ∧ ¬cond0_5 i) ∨ (¬cond0_0 i ∧ cond0_3 i ∧ ¬cond0_4 i ∧ cond0_5 i)

/-- Every point is of one of the five kinds. -/
theorem kind (t : Fin cfg0.N) : Kind (grid0.coords t) := by
  have hN : t.val < 16 := lt_of_lt_of_eq t.isLt (show cfg0.N = 16 from N_0)
  unfold Kind
  rw [hcond0_0 t, hcond0_1 t, hcond0_2 t, hcond0_3 t, hcond0_4 t, hcond0_5 t]
  omega

set_option maxHeartbeats 16000000 in
/-- The body on whole buffers: from the inputs and anything in the rest it runs to its end, the inputs as they were. -/
theorem any_run (c : Dev nD) (i : grid0.Coords) (hk : Kind i) (arg2 : Memref sig .tc .vmem S1x256x768 .fp8e4m3) (harg2 : arg2.IsWhole) (arg3 : Memref sig .tc .vmem S2x2048 .f32) (harg3 : arg3.IsWhole) (arg4 : Memref sig .tc .vmem S1x2048x768 .fp8e4m3) (harg4 : arg4.IsWhole) (arg5 : Memref sig .tc .vmem S2x2048 .f32) (harg5 : arg5.IsWhole) (arg6 : Memref sig .tc .vmem S2x2048 .i32) (harg6 : arg6.IsWhole) (arg7 : Memref sig .tc .smem S1x1 .f32) (harg7 : arg7.IsWhole) (arg8 : Memref sig .tc .smem S1x1 .f32) (harg8 : arg8.IsWhole) (arg9 : Memref sig .tc .vmem S2x2048 .f32) (harg9 : arg9.IsWhole) (arg10 : Memref sig .tc .vmem S1x256x768 .bf16) (harg10 : arg10.IsWhole) (arg11 : Memref sig .tc .vmem S1x2048x768 .bf16) (harg11 : arg11.IsWhole) (arg12 : Memref sig .tc .vmem S2x2048 .f32) (harg12 : arg12.IsWhole) (arg13 : Memref sig .tc .vmem S2x2048 .f32) (harg13 : arg13.IsWhole) (arg14 : Memref sig .tc .vmem S2048x768 .bf16) (harg14 : arg14.IsWhole) (arg15 : Memref sig .tc .vmem S768x2048 .f32) (harg15 : arg15.IsWhole) (arg16 : Memref sig .tc .vmem S256x2048 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .i32) (harg19 : arg19.IsWhole) (arg20 : Memref sig .tc .vmem S3x1x2048 .f32) (harg20 : arg20.IsWhole)
    (x0 : Vec F S1x256x768 .fp8e4m3) (x1 : Vec F S2x2048 .f32) (x2 : Vec F S1x2048x768 .fp8e4m3) (x3 : Vec F S2x2048 .f32) (x4 : Vec F S2x2048 .i32) (x5 : Vec F S1x1 .f32) (x6 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
    ⊢ wp frame (wpE (defs₀ (F := F)) Variants.none c none) E (cc0_siglip_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_siglip_fwd_bwd_eq_skeleton]; unfold cc0_siglip_fwd_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  rcases hk with ⟨hc0, hc1, hc2, hc3⟩ | ⟨hc0, hc1, hc2, hc3⟩ | ⟨hc0, hc3⟩ | ⟨hc0, hc3, hc4, hc5⟩ | ⟨hc0, hc3, hc4, hc5⟩
  all_goals
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc3 | sl_exact hc1 | sl_exact hc2 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

/-- The outputs, of which nothing is said. -/
def forgets0 : Fin 12 → Bool := fun w => w.val == 7 || w.val == 8 || w.val == 9 || w.val == 10 || w.val == 11

/-- The proof data of the pipeline on a core: the inputs at their blocks, the outputs and the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, H7, H8, H9, H10, H11⟩
  iapply (any_run c (grid0.coords t) (kind t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The body obligation of the pipeline. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every counter at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun c => Idealize.SL.BI.Entails.refl _) (hout := fun c => Idealize.SL.BI.Entails.refl _)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- The frame: every run ends, the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Hand

end
-- ==== Proof.lean ====
module

public import proofs.«01_k».proof.Proof.Gen.ReferenceIdeal.Value
public import proofs.«01_k».proof.Proof.Hand.Algebraic
public import proofs.«01_k».proof.Proof.Hand.KernelFrame
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Gen.frame m ρ,
  ⟨IdealRules.named_const.statement Cert.KernelIdeal.κ "log2e" .f32 0x3FB8AA3B#32 (((Real.log 2)⁻¹ : ℝ) : EReal) rfl,
  IdealRules.named_const.statement Cert.KernelIdeal.κ "ln2" .f32 0x3F317218#32 ((Real.log 2 : ℝ) : EReal) rfl,
  IdealRules.named_const.statement Cert.KernelIdeal.κ "ln2_inv_s" .f32 0x39B17218#32 (((Real.log 2) * 2048⁻¹ : ℝ) : EReal) rfl⟩,
  Cert.KernelIdeal.Hand.algebraic⟩

end Cert.Proof

end
